-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_step_nonzero [hPre_step_nonzero : Cert.Pre_step_nonzero.Facts] (m : (ℓ : Loc Cert.KernelIdeal.nD Cert.KernelIdeal.τ Cert.KernelIdeal.sig) → Buf (Elt Ideal) ℓ) : Prop :=
  ∀ c : Dev Cert.KernelIdeal.nD,
    (Cert.Pre_step_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_step_nonzero [hPre_step_nonzero : Cert.Pre_step_nonzero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_step_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_step_nonzero [hKernelIdeal : Cert.KernelIdeal.Facts] [hPre_step_nonzero : Cert.Pre_step_nonzero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_step_nonzero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_step_nonzero [hReferenceIdeal : Cert.ReferenceIdeal.Facts] [hPre_step_nonzero : Cert.Pre_step_nonzero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_step_nonzero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "inv_127" .f32 0x3C010204#32 ((1 / 127 : ℝ) : EReal)

def algebraic_KernelIdeal_ReferenceIdeal_pre_step_nonzero [hKernelIdeal : Cert.KernelIdeal.Facts] [hReferenceIdeal : Cert.ReferenceIdeal.Facts] [hPre_step_nonzero : Cert.Pre_step_nonzero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_step_nonzero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)) (v2 : (c : Dev Cert.KernelIdeal.nD) → Buf (Elt Ideal) ((c.tc : Thread Cert.KernelIdeal.nD Cert.KernelIdeal.τ).loc Cert.KernelIdeal.main_v15_2)) (v3 : (c : Dev Cert.KernelIdeal.nD) → Buf (Elt Ideal) ((c.tc : Thread Cert.KernelIdeal.nD Cert.KernelIdeal.τ).loc Cert.KernelIdeal.main_v15_3)) (v4 : (c : Dev Cert.KernelIdeal.nD) → Buf (Elt Ideal) ((c.tc : Thread Cert.KernelIdeal.nD Cert.KernelIdeal.τ).loc Cert.KernelIdeal.main_v15_4)) (v5 : (c : Dev Cert.KernelIdeal.nD) → Buf (Elt Ideal) ((c.tc : Thread Cert.KernelIdeal.nD Cert.KernelIdeal.τ).loc Cert.KernelIdeal.main_v15_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_v15_2) = v2 c
          ∧ r.2.mem ((c.tc : Thread Cert.KernelIdeal.nD Cert.KernelIdeal.τ).loc Cert.KernelIdeal.main_v15_3) = v3 c
          ∧ r.2.mem ((c.tc : Thread Cert.KernelIdeal.nD Cert.KernelIdeal.τ).loc Cert.KernelIdeal.main_v15_4) = v4 c
          ∧ r.2.mem ((c.tc : Thread Cert.KernelIdeal.nD Cert.KernelIdeal.τ).loc Cert.KernelIdeal.main_v15_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8_0) = v0 c
          ∧ r.2.mem ((c.tc : Thread Cert.ReferenceIdeal.nD Cert.ReferenceIdeal.τ).loc Cert.ReferenceIdeal.main_v8_1) = v1 c
          ∧ r.2.mem ((c.tc : Thread Cert.ReferenceIdeal.nD Cert.ReferenceIdeal.τ).loc Cert.ReferenceIdeal.main_v8_2) = v2 c
          ∧ r.2.mem ((c.tc : Thread Cert.ReferenceIdeal.nD Cert.ReferenceIdeal.τ).loc Cert.ReferenceIdeal.main_v8_3) = v3 c
          ∧ r.2.mem ((c.tc : Thread Cert.ReferenceIdeal.nD Cert.ReferenceIdeal.τ).loc Cert.ReferenceIdeal.main_v8_4) = v4 c
          ∧ r.2.mem ((c.tc : Thread Cert.ReferenceIdeal.nD Cert.ReferenceIdeal.τ).loc Cert.ReferenceIdeal.main_v8_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_step_nonzero : Cert.Pre_step_nonzero.Facts),
    quiescent_Kernel (hKernel := hKernel)
    ∧ quiescent_KernelIdeal (hKernelIdeal := hKernelIdeal)
    ∧ quiescent_KernelIdeal_pre_step_nonzero (hKernelIdeal := hKernelIdeal) (hPre_step_nonzero := hPre_step_nonzero)
    ∧ quiescent_ReferenceIdeal (hReferenceIdeal := hReferenceIdeal)
    ∧ quiescent_ReferenceIdeal_pre_step_nonzero (hReferenceIdeal := hReferenceIdeal) (hPre_step_nonzero := hPre_step_nonzero)
    ∧ preserves_Kernel_KernelIdeal
    ∧ algebraic_KernelIdeal_ReferenceIdeal_pre_step_nonzero (hKernelIdeal := hKernelIdeal) (hReferenceIdeal := hReferenceIdeal) (hPre_step_nonzero := hPre_step_nonzero)
-- ==== Pre_step_nonzero.lean ====
abbrev S1x1792x7168 : Shape := ⟨3, ![1, 1792, 7168]⟩
abbrev S1x1792x56 : Shape := ⟨3, ![1, 1792, 56]⟩
abbrev S1x1792x2048 : Shape := ⟨3, ![1, 1792, 2048]⟩
abbrev S1x1792x16 : Shape := ⟨3, ![1, 1792, 16]⟩
abbrev S7168x2048 : Shape := ⟨2, ![7168, 2048]⟩
abbrev S7168x16 : Shape := ⟨2, ![7168, 16]⟩
abbrev S_ : Shape := ⟨0, ![]⟩

class Facts : Prop where

variable [Facts]

def fn {F : FTy → Type} [FloatOps F] (main_arg0 : FVec F S1x1792x7168 .fp8e4m3) (main_arg1 : FVec F S1x1792x56 .f32) (main_arg2 : FVec F S1x1792x2048 .fp8e5m2) (main_arg3 : FVec F S1x1792x16 .f32) (main_arg4 : FVec F S7168x2048 .bf16) (main_arg5 : IVec S7168x2048 8) (main_arg6 : FVec F S7168x16 .f32) (main_arg7 : IVec S7168x2048 8) (main_arg8 : FVec F S7168x16 .f32) (main_arg9 : IVec S_ 32) : IVec S_ 1 :=
  let main_c : IVec S_ 32 := constantI S_ 32 0#32
  let main_v0 : IVec S_ 1 := cmpi .ne main_arg9 main_c
  main_v0
-- ==== Kernel.lean ====
abbrev S1x1792x7168 : Shape := ⟨3, ![1, 1792, 7168]⟩
abbrev S1x1792x56 : Shape := ⟨3, ![1, 1792, 56]⟩
abbrev S1x1792x2048 : Shape := ⟨3, ![1, 1792, 2048]⟩
abbrev S1x1792x16 : Shape := ⟨3, ![1, 1792, 16]⟩
abbrev S7168x2048 : Shape := ⟨2, ![7168, 2048]⟩
abbrev S7168x16 : Shape := ⟨2, ![7168, 16]⟩
abbrev S_ : Shape := ⟨0, ![]⟩
abbrev S1792x7168 : Shape := ⟨2, ![1792, 7168]⟩
abbrev S1792x56 : Shape := ⟨2, ![1792, 56]⟩
abbrev S56x1792 : Shape := ⟨2, ![56, 1792]⟩
abbrev S1792x2048 : Shape := ⟨2, ![1792, 2048]⟩
abbrev S1792x16 : Shape := ⟨2, ![1792, 16]⟩
abbrev S1 : Shape := ⟨1, ![1]⟩
abbrev S2 : Shape := ⟨1, ![2]⟩
abbrev S1792x256 : Shape := ⟨2, ![1792, 256]⟩
abbrev S256x2048 : Shape := ⟨2, ![256, 2048]⟩
abbrev S256x16 : Shape := ⟨2, ![256, 16]⟩
abbrev S256x1792 : Shape := ⟨2, ![256, 1792]⟩
abbrev S1792x1 : Shape := ⟨2, ![1792, 1]⟩
abbrev S1792x128 : Shape := ⟨2, ![1792, 128]⟩
abbrev S1x1792 : Shape := ⟨2, ![1, 1792]⟩
abbrev S128x1792 : Shape := ⟨2, ![128, 1792]⟩
abbrev S256x256 : Shape := ⟨2, ![256, 256]⟩
abbrev S64x128 : Shape := ⟨2, ![64, 128]⟩
abbrev S64x1 : Shape := ⟨2, ![64, 1]⟩
abbrev S64 : Shape := ⟨1, ![64]⟩

abbrev nBuf : Space → Nat
  | .hbm => 37
  | .vmem => 29
  | .smem => 1
  | _ => 0

abbrev bufTy : (tb : Table) → Fin (tcTables nBuf tb) → BufTy
  | .hbm, ⟨0, _⟩ => ⟨S1x1792x7168, .fp8e4m3⟩
  | .hbm, ⟨1, _⟩ => ⟨S1x1792x56, .f32⟩
  | .hbm, ⟨2, _⟩ => ⟨S1x1792x2048, .fp8e5m2⟩
  | .hbm, ⟨3, _⟩ => ⟨S1x1792x16, .f32⟩
  | .hbm, ⟨4, _⟩ => ⟨S7168x2048, .bf16⟩
  | .hbm, ⟨5, _⟩ => ⟨S7168x2048, .i8⟩
  | .hbm, ⟨6, _⟩ => ⟨S7168x16, .f32⟩
  | .hbm, ⟨7, _⟩ => ⟨S7168x2048, .i8⟩
  | .hbm, ⟨8, _⟩ => ⟨S7168x16, .f32⟩
  | .hbm, ⟨9, _⟩ => ⟨S_, .i32⟩
  | .hbm, ⟨10, _⟩ => ⟨S1792x7168, .fp8e4m3⟩
  | .hbm, ⟨11, _⟩ => ⟨S1792x56, .f32⟩
  | .hbm, ⟨12, _⟩ => ⟨S56x1792, .f32⟩
  | .hbm, ⟨13, _⟩ => ⟨S1792x2048, .fp8e5m2⟩
  | .hbm, ⟨14, _⟩ => ⟨S1792x16, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S1, .f32⟩
  | .hbm, ⟨29, _⟩ => ⟨S1, .f32⟩
  | .hbm, ⟨30, _⟩ => ⟨S2, .f32⟩
  | .hbm, ⟨31, _⟩ => ⟨S7168x2048, .bf16⟩
  | .hbm, ⟨32, _⟩ => ⟨S7168x2048, .f32⟩
  | .hbm, ⟨33, _⟩ => ⟨S7168x2048, .i8⟩
  | .hbm, ⟨34, _⟩ => ⟨S7168x16, .f32⟩
  | .hbm, ⟨35, _⟩ => ⟨S7168x2048, .i8⟩
  | .hbm, ⟨36, _⟩ => ⟨S7168x16, .f32⟩
  | .local _ .vmem, ⟨0, _⟩ => ⟨S1792x256, .fp8e4m3⟩
  | .local _ .vmem, ⟨1, _⟩ => ⟨S1792x256, .fp8e4m3⟩
  | .local _ .vmem, ⟨2, _⟩ => ⟨S56x1792, .f32⟩
  | .local _ .vmem, ⟨3, _⟩ => ⟨S1792x2048, .fp8e5m2⟩
  | .local _ .vmem, ⟨4, _⟩ => ⟨S1792x16, .f32⟩
  | .local _ .vmem, ⟨5, _⟩ => ⟨S256x2048, .bf16⟩
  | .local _ .vmem, ⟨6, _⟩ => ⟨S256x2048, .bf16⟩
  | .local _ .vmem, ⟨7, _⟩ => ⟨S256x2048, .i8⟩
  | .local _ .vmem, ⟨8, _⟩ => ⟨S256x2048, .i8⟩
  | .local _ .vmem, ⟨9, _⟩ => ⟨S256x16, .f32⟩
  | .local _ .vmem, ⟨10, _⟩ => ⟨S256x16, .f32⟩
  | .local _ .vmem, ⟨11, _⟩ => ⟨S256x2048, .i8⟩
  | .local _ .vmem, ⟨12, _⟩ => ⟨S256x2048, .i8⟩
  | .local _ .vmem, ⟨13, _⟩ => ⟨S256x16, .f32⟩
  | .local _ .vmem, ⟨14, _⟩ => ⟨S256x16, .f32⟩
  | .local _ .vmem, ⟨15, _⟩ => ⟨S256x2048, .bf16⟩
  | .local _ .vmem, ⟨16, _⟩ => ⟨S256x2048, .bf16⟩
  | .local _ .vmem, ⟨17, _⟩ => ⟨S256x2048, .f32⟩
  | .local _ .vmem, ⟨18, _⟩ => ⟨S256x2048, .f32⟩
  | .local _ .vmem, ⟨19, _⟩ => ⟨S256x2048, .i8⟩
  | .local _ .vmem, ⟨20, _⟩ => ⟨S256x2048, .i8⟩
  | .local _ .vmem, ⟨21, _⟩ => ⟨S256x16, .f32⟩
  | .local _ .vmem, ⟨22, _⟩ => ⟨S256x16, .f32⟩
  | .local _ .vmem, ⟨23, _⟩ => ⟨S256x2048, .i8⟩
  | .local _ .vmem, ⟨24, _⟩ => ⟨S256x2048, .i8⟩
  | .local _ .vmem, ⟨25, _⟩ => ⟨S256x16, .f32⟩
  | .local _ .vmem, ⟨26, _⟩ => ⟨S256x16, .f32⟩
  | .local _ .vmem, ⟨27, _⟩ => ⟨S1792x2048, .bf16⟩
  | .local _ .vmem, ⟨28, _⟩ => ⟨S256x1792, .bf16⟩
  | .local _ .smem, ⟨0, _⟩ => ⟨S2, .f32⟩
  | _, _ => ⟨S1x1792x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .smem, ⟨0, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_cst_3 : Ref sig .tc := ⟨.hbm, 24, rfl⟩
abbrev main_v10 : Ref sig .tc := ⟨.hbm, 25, rfl⟩
abbrev main_cst_4 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15_0 : Ref sig .tc := ⟨.hbm, 31, rfl⟩
abbrev main_v15_1 : Ref sig .tc := ⟨.hbm, 32, rfl⟩
abbrev main_v15_2 : Ref sig .tc := ⟨.hbm, 33, rfl⟩
abbrev main_v15_3 : Ref sig .tc := ⟨.hbm, 34, rfl⟩
abbrev main_v15_4 : Ref sig .tc := ⟨.hbm, 35, rfl⟩
abbrev main_v15_5 : Ref sig .tc := ⟨.hbm, 36, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_scratch0 : Ref sig .tc := ⟨.vmem, 27, rfl⟩
abbrev cc0_scratch1 : Ref sig .tc := ⟨.vmem, 28, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![28], ![false]⟩

def k0_off1 (i : grid0.Coords) (c0_i32_1 : BitVec 32) : Fin 2 → Nat :=
  let arg0 : BitVec 32 := BitVec.ofNat 32 (i 0).val
  let c2_i32 : BitVec 32 := 2#32
  let v3 : BitVec 32 := Scalar.muli arg0 c2_i32
  let v4 : BitVec 32 := Scalar.addi v3 c0_i32_1
  let v5 : Index := Scalar.indexCast v4
  let c0 : Index := 0#32
  ![v5.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1792x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S56x1792 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1792x2048 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1792x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .i8 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x16 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2048 .i8 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x16 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== KernelIdeal.lean ====
variable {F : FTy → Type} [FloatOps F] [Named F]
def κ : String → Option EReal := fun
  | "inv_127" => some ((1 / 127 : ℝ) : EReal)
  | _ => none
-- ==== ReferenceIdeal.lean ====
abbrev S1x1792x7168 : Shape := ⟨3, ![1, 1792, 7168]⟩
abbrev S1x1792x56 : Shape := ⟨3, ![1, 1792, 56]⟩
abbrev S1x1792x2048 : Shape := ⟨3, ![1, 1792, 2048]⟩
abbrev S1x1792x16 : Shape := ⟨3, ![1, 1792, 16]⟩
abbrev S7168x2048 : Shape := ⟨2, ![7168, 2048]⟩
abbrev S7168x16 : Shape := ⟨2, ![7168, 16]⟩
abbrev S_ : Shape := ⟨0, ![]⟩
abbrev S1 : Shape := ⟨1, ![1]⟩
abbrev S2 : Shape := ⟨1, ![2]⟩
abbrev S1x1792x56x128 : Shape := ⟨4, ![1, 1792, 56, 128]⟩
abbrev S1x1792x56x1 : Shape := ⟨4, ![1, 1792, 56, 1]⟩
abbrev S1x1792x16x128 : Shape := ⟨4, ![1, 1792, 16, 128]⟩
abbrev S1x1792x16x1 : Shape := ⟨4, ![1, 1792, 16, 1]⟩
abbrev S7168x16x128 : Shape := ⟨3, ![7168, 16, 128]⟩
abbrev S7168x16x1 : Shape := ⟨3, ![7168, 16, 1]⟩

abbrev nBuf : Space → Nat
  | .hbm => 28
  | .vmem => 15
  | .smem => 1
  | _ => 0

abbrev bufTy : (tb : Table) → Fin (tcTables nBuf tb) → BufTy
  | .hbm, ⟨0, _⟩ => ⟨S1x1792x7168, .fp8e4m3⟩
  | .hbm, ⟨1, _⟩ => ⟨S1x1792x56, .f32⟩
  | .hbm, ⟨2, _⟩ => ⟨S1x1792x2048, .fp8e5m2⟩
  | .hbm, ⟨3, _⟩ => ⟨S1x1792x16, .f32⟩
  | .hbm, ⟨4, _⟩ => ⟨S7168x2048, .bf16⟩
  | .hbm, ⟨5, _⟩ => ⟨S7168x2048, .i8⟩
  | .hbm, ⟨6, _⟩ => ⟨S7168x16, .f32⟩
  | .hbm, ⟨7, _⟩ => ⟨S7168x2048, .i8⟩
  | .hbm, ⟨8, _⟩ => ⟨S7168x16, .f32⟩
  | .hbm, ⟨9, _⟩ => ⟨S_, .i32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1, .f32⟩
  | .hbm, ⟨20, _⟩ => ⟨S1, .f32⟩
  | .hbm, ⟨21, _⟩ => ⟨S2, .f32⟩
  | .hbm, ⟨22, _⟩ => ⟨S7168x2048, .bf16⟩
  | .hbm, ⟨23, _⟩ => ⟨S7168x2048, .f32⟩
  | .hbm, ⟨24, _⟩ => ⟨S7168x2048, .i8⟩
  | .hbm, ⟨25, _⟩ => ⟨S7168x16, .f32⟩
  | .hbm, ⟨26, _⟩ => ⟨S7168x2048, .i8⟩
  | .hbm, ⟨27, _⟩ => ⟨S7168x16, .f32⟩
  | .local _ .vmem, ⟨0, _⟩ => ⟨S1x1792x7168, .fp8e4m3⟩
  | .local _ .vmem, ⟨1, _⟩ => ⟨S1x1792x56, .f32⟩
  | .local _ .vmem, ⟨2, _⟩ => ⟨S1x1792x2048, .fp8e5m2⟩
  | .local _ .vmem, ⟨3, _⟩ => ⟨S1x1792x16, .f32⟩
  | .local _ .vmem, ⟨4, _⟩ => ⟨S7168x2048, .bf16⟩
  | .local _ .vmem, ⟨5, _⟩ => ⟨S7168x2048, .i8⟩
  | .local _ .vmem, ⟨6, _⟩ => ⟨S7168x16, .f32⟩
  | .local _ .vmem, ⟨7, _⟩ => ⟨S7168x2048, .i8⟩
  | .local _ .vmem, ⟨8, _⟩ => ⟨S7168x16, .f32⟩
  | .local _ .vmem, ⟨9, _⟩ => ⟨S7168x2048, .bf16⟩
  | .local _ .vmem, ⟨10, _⟩ => ⟨S7168x2048, .f32⟩
  | .local _ .vmem, ⟨11, _⟩ => ⟨S7168x2048, .i8⟩
  | .local _ .vmem, ⟨12, _⟩ => ⟨S7168x16, .f32⟩
  | .local _ .vmem, ⟨13, _⟩ => ⟨S7168x2048, .i8⟩
  | .local _ .vmem, ⟨14, _⟩ => ⟨S7168x16, .f32⟩
  | .local _ .smem, ⟨0, _⟩ => ⟨S2, .f32⟩
  | _, _ => ⟨S1x1792x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_cst_1 : Ref sig .tc := ⟨.hbm, 15, rfl⟩
abbrev main_v3 : Ref sig .tc := ⟨.hbm, 16, rfl⟩
abbrev main_cst_2 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8_0 : Ref sig .tc := ⟨.hbm, 22, rfl⟩
abbrev main_v8_1 : Ref sig .tc := ⟨.hbm, 23, rfl⟩
abbrev main_v8_2 : Ref sig .tc := ⟨.hbm, 24, rfl⟩
abbrev main_v8_3 : Ref sig .tc := ⟨.hbm, 25, rfl⟩
abbrev main_v8_4 : Ref sig .tc := ⟨.hbm, 26, rfl⟩
abbrev main_v8_5 : Ref sig .tc := ⟨.hbm, 27, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg12_0 : Ref sig .tc := ⟨.vmem, 11, rfl⟩
abbrev cc0_stg13_0 : Ref sig .tc := ⟨.vmem, 12, rfl⟩
abbrev cc0_stg14_0 : Ref sig .tc := ⟨.vmem, 13, rfl⟩
abbrev cc0_stg15_0 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1792x7168 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1792x56 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1792x2048 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1792x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S7168x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S7168x2048 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S7168x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S7168x2048 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S7168x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S7168x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S7168x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S7168x2048 .i8 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S7168x16 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S7168x2048 .i8 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S7168x16 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== Proof.Spec.lean ====
/- The mathematics of the update, element by element, over the extended reals: the moments, the step, the block
   scale and the 8-bit code, each once as the reference writes it (division) and once as the kernel computes it
   (multiplication by a reciprocal), with the proof that the two agree wherever the divisor is not zero. -/
module

public import Idealize.ShloMosaic.PureOps.Ideal

@[expose] public section

noncomputable section

namespace Cert.Adam

open Idealize.ShloMosaic

/-- The extended real that a printed binary32 literal denotes. -/
abbrev lit (b : BitVec 32) : EReal := Ideal.ofBits .f32 b

/-- The absolute value, as the instance computes it. -/
abbrev mag (x : EReal) : EReal := max x (-x)

/-- A stored 8-bit code as a number. -/
abbrev num (q : BitVec 8) : EReal := ((q.toInt : ℝ) : EReal)

/-- The new first moment: `0.9 · old + 0.1 · gradient`, the old one a code times its block's scale. -/
def mom (q : BitVec 8) (sc g : EReal) : EReal := lit 0x3F666666#32 * (num q * sc) + lit 0x3DCCCCCD#32 * g

/-- The new second moment: `0.999 · old² + 0.001 · gradient²`. -/
def vel (q : BitVec 8) (sc g : EReal) : EReal :=
  lit 0x3F7FBE77#32 * (num q * sc * (num q * sc)) + lit 0x3A83126F#32 * g * g

/-- The new root of the second moment, what is stored. -/
def root (q : BitVec 8) (sc g : EReal) : EReal := Ideal.sqrt (vel q sc g)

/-- The step as the reference writes it: both moments divided by their bias corrections. -/
def stepR (c1 c2 m v : EReal) : EReal :=
  Ideal.div (lit 0xBA83126F#32 * Ideal.div m c1) (Ideal.sqrt (Ideal.div v c2) + lit 0x322BCC77#32)

/-- The step as the kernel computes it: both moments multiplied by the corrections' reciprocals. -/
def stepK (i1 i2 m v : EReal) : EReal :=
  Ideal.div (lit 0xBA83126F#32 * (m * i1)) (Ideal.sqrt (v * i2) + lit 0x322BCC77#32)

/-- A block's scale as the reference writes it, from the block's largest magnitude. -/
def scaleR (a : EReal) : EReal := if a = 0 then 1 else Ideal.div a (lit 0x42FE0000#32)

/-- A block's scale as the kernel computes it. -/
def scaleK (a : EReal) : EReal := if a = 0 then 1 else a * ((1 / 127 : ℝ) : EReal)

/-- Rounding to the nearest integer, clipping to ±127, conversion to a byte. -/
def toCode (x : EReal) : BitVec 8 :=
  Ideal.fptosi 8 (min (((127#32 : BitVec 32).toInt : ℝ) : EReal)
    (max (((4294967169#32 : BitVec 32).toInt : ℝ) : EReal) (Ideal.liftRound Ideal.roundHalfEven x)))

/-- A code as the reference writes it: the value divided by its block's scale. -/
def codeR (v s : EReal) : BitVec 8 := toCode (Ideal.div v s)

/-- A code as the kernel computes it: the value multiplied by the scale's reciprocal. -/
def codeK (v s : EReal) : BitVec 8 := toCode (v * Ideal.div 1 s)

/-- The largest of a block's 128 values, from minus infinity. -/
def top (f : Fin 128 → EReal) : EReal := Finset.univ.fold max (lit 0xFF800000#32) f

/-! ## The two forms agree -/

/-- Multiplying by a reciprocal is dividing, off zero. -/
theorem mul_div_one {s : EReal} (h : s ≠ 0) (x : EReal) : x * Ideal.div 1 s = Ideal.div x s := by
  unfold Ideal.div
  rw [if_neg h, if_neg h, one_mul]

/-- The steps agree when the bias corrections are not zero. -/
theorem stepK_eq {c1 c2 : EReal} (h1 : c1 ≠ 0) (h2 : c2 ≠ 0) (m v : EReal) :
    stepK (Ideal.div 1 c1) (Ideal.div 1 c2) m v = stepR c1 c2 m v := by
  unfold stepK stepR
  rw [mul_div_one h1, mul_div_one h2]

/-- The literal 127 is the number 127. -/
theorem lit_127 : lit 0x42FE0000#32 = ((127 : ℝ) : EReal) := by
  simp [lit, Ideal.ofBits, Ideal.ieee, -EReal.coe_mul]
  norm_num

/-- The scales agree. -/
theorem scaleK_eq (a : EReal) : scaleK a = scaleR a := by
  unfold scaleK scaleR
  rw [lit_127, Ideal.div_coe (by norm_num : (127 : ℝ) ≠ 0)]

/-- A scale is never zero. -/
theorem scaleR_ne (a : EReal) : scaleR a ≠ 0 := by
  rw [← scaleK_eq]
  unfold scaleK
  split
  · exact one_ne_zero
  · rename_i h
    have h2 : ((1 / 127 : ℝ) : EReal) ≠ 0 := by
      rw [Ne, EReal.coe_eq_zero]; norm_num
    exact mul_ne_zero h h2

/-- The codes agree when the scale is a block's scale. -/
theorem codeK_eq (v a : EReal) : codeK v (scaleR a) = codeR v (scaleR a) := by
  unfold codeK codeR
  rw [mul_div_one (scaleR_ne a)]

/-! ## The second moment is not negative -/

/-- A square is not negative. -/
theorem sq_nonneg' (x : EReal) : 0 ≤ x * x := by
  rcases le_total 0 x with h | h
  · exact mul_nonneg h h
  · have h' : 0 ≤ -x := EReal.neg_nonneg.mpr h
    have := mul_nonneg h' h'
    rwa [neg_mul_neg] at this

/-- The weight of the old second moment is not negative. -/
theorem lit_b2 : 0 ≤ lit 0x3F7FBE77#32 := by
  simp [lit, Ideal.ofBits, Ideal.ieee, -EReal.coe_mul]

/-- The weight of the squared gradient is not negative. -/
theorem lit_c2 : 0 ≤ lit 0x3A83126F#32 := by
  simp [lit, Ideal.ofBits, Ideal.ieee, -EReal.coe_mul]

/-- The new second moment is not negative. -/
theorem vel_nonneg (q : BitVec 8) (sc g : EReal) : 0 ≤ vel q sc g := by
  unfold vel
  rw [mul_assoc (lit 0x3A83126F#32)]
  exact add_nonneg (mul_nonneg lit_b2 (sq_nonneg' _)) (mul_nonneg lit_c2 (sq_nonneg' _))

/-- The root of a number that is not negative is not negative. -/
theorem sqrt_nonneg' {x : EReal} (h : 0 ≤ x) : 0 ≤ Ideal.sqrt x := by
  induction x using EReal.rec with
  | bot => exact absurd h (by simp)
  | top => simp
  | coe r =>
    rw [Ideal.sqrt_coe, if_neg (not_lt.mpr (EReal.coe_nonneg.mp h))]
    exact EReal.coe_nonneg.mpr (Real.sqrt_nonneg r)

/-- The stored root is its own magnitude, so the kernel's maximum without an absolute value is the reference's. -/
theorem mag_root (q : BitVec 8) (sc g : EReal) : mag (root q sc g) = root q sc g := by
  have h : 0 ≤ root q sc g := sqrt_nonneg' (vel_nonneg q sc g)
  exact max_eq_left (le_trans (EReal.neg_le_zero.mpr h) h)

/-! ## The bias corrections are not zero -/

/-- A number strictly between 0 and 1 raised to an integer other than 0 is not 1. -/
theorem rpow_ne_one {r : ℝ} (h0 : 0 < r) (h1 : r < 1) {t : ℤ} (ht : t ≠ 0) : Real.rpow r (t : ℝ) ≠ 1 := by
  have e : Real.rpow r (t : ℝ) = r ^ (t : ℝ) := rfl
  rw [e]
  rcases lt_or_gt_of_ne ht with h | h
  · exact ne_of_gt (Real.one_lt_rpow_of_pos_of_lt_one_of_neg h0 h1 (by exact_mod_cast h))
  · exact ne_of_lt (Real.rpow_lt_one h0.le h1 (by exact_mod_cast h))

/-- The bias correction `1 - b ^ t` of a step counter. -/
def corr (b : EReal) (t : BitVec 32) : EReal := 1 - Ideal.pow b ((t.toInt : ℝ) : EReal)

/-- A bias correction is not zero when the step counter is not. -/
theorem corr_ne {r : ℝ} (h0 : 0 < r) (h1 : r < 1) {t : BitVec 32} (ht : t ≠ 0#32) : corr (r : EReal) t ≠ 0 := by
  have ht' : t.toInt ≠ 0 := fun h => ht (BitVec.toInt_inj.mp (by rw [h]; rfl))
  have h := rpow_ne_one h0 h1 ht'
  unfold corr
  rw [Ideal.pow_coe_coe, ← EReal.coe_one, ← EReal.coe_sub, Ne, EReal.coe_eq_zero, sub_eq_zero]
  exact fun e => h e.symm

/-- The first decay rate is a real number strictly between 0 and 1. -/
theorem lit_b1_real : ∃ r : ℝ, lit 0x3F666666#32 = (r : EReal) ∧ 0 < r ∧ r < 1 := by
  refine ⟨15099494 / 16777216, ?_, by norm_num, by norm_num⟩
  simp [lit, Ideal.ofBits, Ideal.ieee, -EReal.coe_mul]
  norm_num

/-- The second decay rate is a real number strictly between 0 and 1. -/
theorem lit_b2_real : ∃ r : ℝ, lit 0x3F7FBE77#32 = (r : EReal) ∧ 0 < r ∧ r < 1 := by
  refine ⟨16760439 / 16777216, ?_, by norm_num, by norm_num⟩
  simp [lit, Ideal.ofBits, Ideal.ieee, -EReal.coe_mul]
  norm_num

/-- The first moment's correction is not zero at a step counter other than 0. -/
theorem corr1_ne {t : BitVec 32} (ht : t ≠ 0#32) : corr (lit 0x3F666666#32) t ≠ 0 := by
  obtain ⟨r, e, h0, h1⟩ := lit_b1_real
  rw [e]
  exact corr_ne h0 h1 ht

/-- The second moment's correction is not zero at a step counter other than 0. -/
theorem corr2_ne {t : BitVec 32} (ht : t ≠ 0#32) : corr (lit 0x3F7FBE77#32) t ≠ 0 := by
  obtain ⟨r, e, h0, h1⟩ := lit_b2_real
  rw [e]
  exact corr_ne h0 h1 ht

end Cert.Adam

end
-- ==== Proof.Results.lean ====
/- The six results, as the reference's mathematics writes them, each entry a function of the arguments. -/
module

public import proofs.«01_k».proof.Proof.Spec

@[expose] public section

noncomputable section

namespace Cert.Adam

open Idealize.ShloMosaic

/-- The arguments, entry by entry: the input codes and scales, the output gradients' codes and scales, the weights, the two
    moments' codes and scales, and the step counter. -/
@[ext] structure Args where
  x : Fin 1792 → Fin 7168 → EReal
  xs : Fin 1792 → Fin 56 → EReal
  dy : Fin 1792 → Fin 2048 → EReal
  dys : Fin 1792 → Fin 16 → EReal
  w : Fin 7168 → Fin 2048 → EReal
  mq : Fin 7168 → Fin 2048 → BitVec 8
  ms : Fin 7168 → Fin 16 → EReal
  sq : Fin 7168 → Fin 2048 → BitVec 8
  ss : Fin 7168 → Fin 16 → EReal
  t : BitVec 32

namespace Args

variable (A : Args) (i : Fin 7168) (o : Fin 2048) (b : Fin 16)

/-- The weight gradient: the sum over the tokens. -/
def grad : EReal :=
  ∑ k : Fin 1792, A.x k i * A.xs k ⟨i.val / 128, by omega⟩ * (A.dy k o * A.dys k ⟨o.val / 128, by omega⟩)

/-- The new first moment. -/
def m1 : EReal := mom (A.mq i o) (A.ms i ⟨o.val / 128, by omega⟩) (A.grad i o)

/-- The new second moment. -/
def m2 : EReal := vel (A.sq i o) (A.ss i ⟨o.val / 128, by omega⟩) (A.grad i o)

/-- The first moment's bias correction. -/
def c1 : EReal := corr (lit 0x3F666666#32) A.t

/-- The second moment's bias correction. -/
def c2 : EReal := corr (lit 0x3F7FBE77#32) A.t

/-- The update. -/
def upd : EReal := stepR A.c1 A.c2 (A.m1 i o) (A.m2 i o)

/-- The new weight. -/
def wNew : EReal := A.w i o + A.upd i o

/-- The first moment's new scale over one block of 128 columns. -/
def msNew : EReal := scaleR (top fun k => mag (A.m1 i ⟨b.val * 128 + k.val, by omega⟩))

/-- The first moment's new code. -/
def mqNew : BitVec 8 := codeR (A.m1 i o) (A.msNew i ⟨o.val / 128, by omega⟩)

/-- The new scale of the second moment's root over one block of 128 columns. -/
def ssNew : EReal := scaleR (top fun k => mag (Ideal.sqrt (A.m2 i ⟨b.val * 128 + k.val, by omega⟩)))

/-- The new code of the second moment's root. -/
def sqNew : BitVec 8 := codeR (Ideal.sqrt (A.m2 i o)) (A.ssNew i ⟨o.val / 128, by omega⟩)

end Args

end Cert.Adam

end
-- ==== Proof.Top.lean ====
/- The block maximum: the vector reduction both programs use, read at an index. -/
module

public import proofs.«01_k».proof.Proof.Spec
public import Idealize.ShloMosaic.Lib.Pointwise

@[expose] public section

noncomputable section

namespace Cert.Adam

open Idealize.ShloMosaic

/-- The maximum over the last of three axes, at an index: the largest of the entries along it. -/
theorem max_last {n c : Nat} (v : FVec Ideal ⟨3, ![n, c, 128]⟩ .f32)
    (h : Shape.Reduces ⟨3, ![n, c, 128]⟩ [2] ⟨2, ![n, c]⟩) (hφ : FKind.Formats .f32)
    (hacc : (0xFF800000#32 : BitVec (FTy.bits .f32)) = FKind.maximumf.neutral .f32 hφ) (i : Fin n) (b : Fin c) :
    multiReduction .maximumf [2] ⟨2, ![n, c]⟩ v 0xFF800000#32 h hφ hacc (ix2 i b) = top fun k => v (ix3 i b k) := by
  rw [multiReduction_maximumf_eq_fold, Shape.Reduces.fold_fiber_r3_a2]
  rfl

/-- The maximum over the second of two axes, at an index. -/
theorem max_row {n : Nat} (v : FVec Ideal ⟨2, ![n, 128]⟩ .f32)
    (h : Shape.Reduces ⟨2, ![n, 128]⟩ [1] ⟨1, ![n]⟩) (hφ : FKind.Formats .f32)
    (hacc : (0xFF800000#32 : BitVec (FTy.bits .f32)) = FKind.maximumf.neutral .f32 hφ) (i : Fin n) :
    multiReduction .maximumf [1] ⟨1, ![n]⟩ v 0xFF800000#32 h hφ hacc (ix1 i) = top fun k => v (ix2 i k) := by
  rw [multiReduction_maximumf_eq_fold, Shape.Reduces.fold_fiber_r2_a1]
  rfl

end Cert.Adam

end
-- ==== Proof.Chunk.lean ====
/- The kernel computes each block of 256 rows in tiles of 64 rows and 128 columns. Here is what one tile holds: the chain of
   vector operations that makes it, named once, and its value at an entry in the formulas of `Proof.Spec`. The offsets of
   the tile are variables, so each lemma serves all 64 tiles of a block. -/
module

public import proofs.«01_k».proof.Proof.Top
public import proofs.«01_k».proof.Proof.Gen.KernelIdeal.Skeleton
public import Idealize.ShloMosaic.Lib.Pipeline.ValueKit

@[expose] public section

set_option maxRecDepth 16384

noncomputable section

namespace Cert.KernelIdeal.Hand

open Cert.KernelIdeal Cert.KernelIdeal.Gen Idealize.ShloMosaic Idealize.SL.Sem Cert.Adam

variable [h : Cert.KernelIdeal.Facts]

/-! ## The chains -/

/-- A tile of the first moment, from the tile of codes, their scales and the gradient. -/
abbrev momT (q : IVec S64x128 8) (s : FVec Ideal S64x1 .f32) (g : FVec Ideal S64x128 .f32) : FVec Ideal S64x128 .f32 :=
  addf (mulf (broadcast S64x128 (FloatOps.ofBits .f32 0x3F666666#32 : Ideal .f32))
      (mulf (sitofp .f32 q) (broadcastTo S64x128 s broadcasts_S64x1_S64x128)))
    (mulf (broadcast S64x128 (FloatOps.ofBits .f32 0x3DCCCCCD#32 : Ideal .f32)) g)

/-- A tile of the second moment. -/
abbrev velT (q : IVec S64x128 8) (s : FVec Ideal S64x1 .f32) (g : FVec Ideal S64x128 .f32) : FVec Ideal S64x128 .f32 :=
  addf (mulf (broadcast S64x128 (FloatOps.ofBits .f32 0x3F7FBE77#32 : Ideal .f32))
      (mulf (mulf (sitofp .f32 q) (broadcastTo S64x128 s broadcasts_S64x1_S64x128))
        (mulf (sitofp .f32 q) (broadcastTo S64x128 s broadcasts_S64x1_S64x128))))
    (mulf (mulf (broadcast S64x128 (FloatOps.ofBits .f32 0x3A83126F#32 : Ideal .f32)) g) g)

/-- A tile of the step, from the tiles of the moments and the two reciprocals. -/
abbrev stepT (a b : FVec Ideal S64x128 .f32) (i1 i2 : Ideal .f32) : FVec Ideal S64x128 .f32 :=
  divf (mulf (broadcast S64x128 (FloatOps.ofBits .f32 0xBA83126F#32 : Ideal .f32)) (mulf a (broadcast S64x128 i1)))
    (addf (sqrt (mulf b (broadcast S64x128 i2))) (broadcast S64x128 (FloatOps.ofBits .f32 0x322BCC77#32 : Ideal .f32)))

/-- The scales of a tile's 64 rows, from a tile of magnitudes. -/
abbrev scaleT (a : FVec Ideal S64x128 .f32) (hφ : FKind.Formats .f32)
    (hacc : (0xFF800000#32 : BitVec (FTy.bits .f32)) = FKind.maximumf.neutral .f32 hφ) : FVec Ideal S64x1 .f32 :=
  select (cmpf .oeq (shapeCast S64x1 (multiReduction .maximumf [1] S64 a 0xFF800000#32 reduces_S64x128_S64 hφ hacc) shapeCasts_S64_S64x1)
      (broadcast S64x1 (FloatOps.ofBits .f32 0x00000000#32 : Ideal .f32)))
    (broadcast S64x1 (FloatOps.ofBits .f32 0x3F800000#32 : Ideal .f32))
    (mulf (shapeCast S64x1 (multiReduction .maximumf [1] S64 a 0xFF800000#32 reduces_S64x128_S64 hφ hacc) shapeCasts_S64_S64x1)
      (broadcast S64x1 (Named.named κ "inv_127" 0x3C010204#32 : Ideal .f32)))

/-- A tile of codes, from the tile of values and its rows' scales. -/
abbrev codeT (a : FVec Ideal S64x128 .f32) (s : FVec Ideal S64x1 .f32) : IVec S64x128 8 :=
  fptosi 8 (minimumf (broadcast S64x128 (Scalar.sitofp .f32 127#32 : Ideal .f32))
    (maximumf (broadcast S64x128 (Scalar.sitofp .f32 4294967169#32 : Ideal .f32))
      (roundeven (mulf a (broadcastTo S64x128 (divf (broadcast S64x1 (FloatOps.ofBits .f32 0x3F800000#32 : Ideal .f32)) s)
        broadcasts_S64x1_S64x128)))))

/-! ## Their values at an entry -/

/-- A tile of the first moment, entry by entry. -/
theorem momT_apply (q : IVec S64x128 8) (s : FVec Ideal S64x1 .f32) (g : FVec Ideal S64x128 .f32) (i : Fin 64) (o : Fin 128) :
    momT q s g (ix2 i o) = mom (q (ix2 i o)) (s (ix2 i 0)) (g (ix2 i o)) := by
  pointwise [momT]
  rfl

/-- A tile of the second moment, entry by entry. -/
theorem velT_apply (q : IVec S64x128 8) (s : FVec Ideal S64x1 .f32) (g : FVec Ideal S64x128 .f32) (i : Fin 64) (o : Fin 128) :
    velT q s g (ix2 i o) = vel (q (ix2 i o)) (s (ix2 i 0)) (g (ix2 i o)) := by
  pointwise [velT]
  rfl

/-- A tile of the step, entry by entry. -/
theorem stepT_apply (a b : FVec Ideal S64x128 .f32) (i1 i2 : Ideal .f32) (z : S64x128.Idx) :
    stepT a b i1 i2 z = stepK i1 i2 (a z) (b z) := by
  pointwise [stepT]
  rfl

/-- The scale of a row of a tile: that of the row's largest value. -/
theorem scaleT_apply (a : FVec Ideal S64x128 .f32) (hφ hacc) (i : Fin 64) :
    scaleT a hφ hacc (ix2 i 0) = scaleK (top fun k => a (ix2 i k)) := by
  have key := max_row a reduces_S64x128_S64 hφ hacc i
  unfold scaleT
  generalize multiReduction .maximumf [1] S64 a 0xFF800000#32 reduces_S64x128_S64 hφ hacc = M at key ⊢
  rw [← key]
  have hn : (Named.named κ "inv_127" 0x3C010204#32 : Ideal .f32) = ((1 / 127 : ℝ) : EReal) :=
    IdealRules.named_const.ideal_named_scalar _ _ _ _ rfl
  rw [hn]
  pointwise
  rfl

/-- A tile of codes, entry by entry, each from its row's scale. -/
theorem codeT_apply (a : FVec Ideal S64x128 .f32) (s : FVec Ideal S64x1 .f32) (i : Fin 64) (o : Fin 128) :
    codeT a s (ix2 i o) = codeK (a (ix2 i o)) (s (ix2 i 0)) := by
  pointwise [codeT]
  rfl

/-- A tile of the gradient cut from a product, entry by entry: a sum over the tokens. -/
theorem gradT_apply (xb : FVec Ideal S256x1792 .bf16) (D : FVec Ideal S1792x256 .bf16) (o0 o1 : Nat)
    (hs : S256x256.Slices ![o0, o1] S64x128) (z : S64x128.Idx) (i o : Fin 256)
    (hi : i.val = o0 + (z 0).val) (ho : o.val = o1 + (z 1).val) :
    extractStridedSlice S64x128 ![o0, o1] (matmul dot_S256x1792_S1792x256_S256x256_1_0_0_1_n_n none xb D
      (constant S256x256 .f32 0x00000000#32)) hs z = ∑ k : Fin 1792, xb (ix2 i k) * D (ix2 k o) := by
  pointwise
  simp only [← hi, ← ho]

/-! ## A block's formulas -/

/-- The gradient over a block: activations `xb` (rows by tokens) against output gradients `D` (tokens by columns). -/
def gB (xb : S256x1792.Idx → EReal) (D : S1792x2048.Idx → EReal) (i : Fin 256) (o : Fin 2048) : EReal :=
  ∑ k : Fin 1792, xb (ix2 i k) * D (ix2 k o)

/-- The first moment over a block, from the codes, the scales and the gradient. -/
def mB (q : S256x2048.Idx → BitVec 8) (s : S256x16.Idx → EReal) (xb : S256x1792.Idx → EReal) (D : S1792x2048.Idx → EReal)
    (i : Fin 256) (o : Fin 2048) : EReal :=
  mom (q (ix2 i o)) (s (ix2 i ⟨o.val / 128, by omega⟩)) (gB xb D i o)

/-- The second moment over a block. -/
def vB (q : S256x2048.Idx → BitVec 8) (s : S256x16.Idx → EReal) (xb : S256x1792.Idx → EReal) (D : S1792x2048.Idx → EReal)
    (i : Fin 256) (o : Fin 2048) : EReal :=
  vel (q (ix2 i o)) (s (ix2 i ⟨o.val / 128, by omega⟩)) (gB xb D i o)

/-- A tile of the gradient: a corner of the product over 256 columns starting at `gc`. -/
abbrev gradT (xb : FVec Ideal S256x1792 .bf16) (D : Vec Ideal S1792x2048 .bf16) (gc o0 o1 : Nat)
    (inb : ∀ a, (![0, gc] : Fin 2 → Nat) a + (![1792, 256] : Fin 2 → Nat) a ≤ S1792x2048.size a)
    (hs : S256x256.Slices ![o0, o1] S64x128) : FVec Ideal S64x128 .f32 :=
  extractStridedSlice S64x128 ![o0, o1] (matmul (φ₂ := .bf16) dot_S256x1792_S1792x256_S256x256_1_0_0_1_n_n none xb
    (View.ld D (Rect.unit (s := S1792x2048) ![0, gc] ![1792, 256] inb)) (constant S256x256 .f32 0x00000000#32)) hs

/-- A tile of the gradient, at an entry of the block. -/
theorem gradT_at (xb : FVec Ideal S256x1792 .bf16) (D : Vec Ideal S1792x2048 .bf16) (gc o0 o1 : Nat) (inb hs)
    (z : S64x128.Idx) (i : Fin 256) (o : Fin 2048) (hi : i.val = o0 + (z 0).val) (ho : o.val = gc + o1 + (z 1).val) :
    gradT xb D gc o0 o1 inb hs z = gB xb D i o := by
  have hc : o1 + (z 1).val < 256 := by
    have h2 : o1 + 128 ≤ 256 := hs.2 1
    have h3 : (z 1).val < 128 := (z 1).isLt
    omega
  refine (gradT_apply xb _ o0 o1 hs z i ⟨o1 + (z 1).val, hc⟩ hi rfl).trans ?_
  unfold gB
  refine Finset.sum_congr rfl fun k _ => congrArg (xb (ix2 i k) * ·) ?_
  refine View.ld_unit_apply_of D _ _ inb _ (ix2 k o) fun a => ?_
  match a with
  | ⟨0, _⟩ => exact (Nat.zero_add _).symm
  | ⟨1, _⟩ => exact ho.trans (Nat.add_assoc _ _ _)

/-- A tile loaded from a block of 256 rows and 2048 columns. -/
abbrev ldT {e : EltTy} (x : Vec Ideal S256x2048 e) (o0 c0 : Nat)
    (inb : ∀ a, (![o0, c0] : Fin 2 → Nat) a + (![64, 128] : Fin 2 → Nat) a ≤ S256x2048.size a) :=
  View.ld x (Rect.unit (s := S256x2048) ![o0, c0] ![64, 128] inb)

/-- A tile's column of scales loaded from a block's scales. -/
abbrev ldS (x : Vec Ideal S256x16 .f32) (o0 b : Nat)
    (inb : ∀ a, (![o0, b] : Fin 2 → Nat) a + (![64, 1] : Fin 2 → Nat) a ≤ S256x16.size a) : FVec Ideal S64x1 .f32 :=
  View.ld x (Rect.unit (s := S256x16) ![o0, b] ![64, 1] inb)

/-- A tile loaded from a block 2048 wide, at an entry of the block. -/
theorem ldT_at {e : EltTy} (x : Vec Ideal S256x2048 e) (o0 c0 : Nat) (inb) (z : S64x128.Idx) (i : Fin 256) (o : Fin 2048)
    (hi : i.val = o0 + (z 0).val) (ho : o.val = c0 + (z 1).val) : ldT x o0 c0 inb z = x (ix2 i o) :=
  View.ld_unit_apply_of x _ _ inb _ (ix2 i o) fun a => match a with
    | ⟨0, _⟩ => hi
    | ⟨1, _⟩ => ho

/-- A column of scales loaded from a block, at a row of the block. -/
theorem ldS_at (x : Vec Ideal S256x16 .f32) (o0 b : Nat) (inb) (z : S64x1.Idx) (i : Fin 256) (o : Fin 16)
    (hi : i.val = o0 + (z 0).val) (ho : o.val = b + (z 1).val) : ldS x o0 b inb z = x (ix2 i o) :=
  View.ld_unit_apply_of x _ _ inb _ (ix2 i o) fun a => match a with
    | ⟨0, _⟩ => hi
    | ⟨1, _⟩ => ho

section Tile

variable (q : Vec Ideal S256x2048 .i8) (s : Vec Ideal S256x16 .f32) (q' : Vec Ideal S256x2048 .i8) (s' : Vec Ideal S256x16 .f32)
  (xb : FVec Ideal S256x1792 .bf16) (D : Vec Ideal S1792x2048 .bf16) (o0 c0 b gc o1 : Nat)

/-- A tile of the first moment, at an entry of the block. -/
theorem mom_at (iq is ig ih) (z : S64x128.Idx) (i : Fin 256) (o : Fin 2048) (hi : i.val = o0 + (z 0).val)
    (ho : o.val = c0 + (z 1).val) (hb : c0 = 128 * b) (hg : c0 = gc + o1) :
    momT (ldT q o0 c0 iq) (ldS s o0 b is) (gradT xb D gc o0 o1 ig ih) z = mB q s xb D i o := by
  have h1 : (z 1).val < 128 := (z 1).isLt
  obtain ⟨z0, z1, rfl⟩ : ∃ (z0 : Fin 64) (z1 : Fin 128), z = ix2 z0 z1 := ⟨z 0, z 1, (ix2_eta z).symm⟩
  rw [momT_apply, ldT_at q o0 c0 iq _ i o hi ho, ldS_at s o0 b is (ix2 z0 0) i ⟨o.val / 128, by omega⟩ hi (by simp at ho ⊢; omega),
    gradT_at xb D gc o0 o1 ig ih _ i o hi (by omega)]
  rfl

/-- A tile of the second moment, at an entry of the block. -/
theorem vel_at (iq is ig ih) (z : S64x128.Idx) (i : Fin 256) (o : Fin 2048) (hi : i.val = o0 + (z 0).val)
    (ho : o.val = c0 + (z 1).val) (hb : c0 = 128 * b) (hg : c0 = gc + o1) :
    velT (ldT q o0 c0 iq) (ldS s o0 b is) (gradT xb D gc o0 o1 ig ih) z = vB q s xb D i o := by
  have h1 : (z 1).val < 128 := (z 1).isLt
  obtain ⟨z0, z1, rfl⟩ : ∃ (z0 : Fin 64) (z1 : Fin 128), z = ix2 z0 z1 := ⟨z 0, z 1, (ix2_eta z).symm⟩
  rw [velT_apply, ldT_at q o0 c0 iq _ i o hi ho, ldS_at s o0 b is (ix2 z0 0) i ⟨o.val / 128, by omega⟩ hi (by simp at ho ⊢; omega),
    gradT_at xb D gc o0 o1 ig ih _ i o hi (by omega)]
  rfl

/-- The step over a block, from the two reciprocals. -/
def uB (r : S2.Idx → EReal) (i : Fin 256) (o : Fin 2048) : EReal :=
  stepK (r (ix1 0)) (r (ix1 1)) (mB q s xb D i o) (vB q' s' xb D i o)

/-- The new weights over a block. -/
abbrev wB (w : S256x2048.Idx → EReal) (r : S2.Idx → EReal) (i : Fin 256) (o : Fin 2048) : EReal :=
  w (ix2 i o) + uB q s q' s' xb D r i o

/-- The first moment's scales over a block. -/
def msB (i : Fin 256) (b : Fin 16) : EReal :=
  scaleK (top fun k => mag (mB q s xb D i ⟨b.val * 128 + k.val, by omega⟩))

/-- The scales of the root of the second moment over a block. -/
def ssB (i : Fin 256) (b : Fin 16) : EReal :=
  scaleK (top fun k => Ideal.sqrt (vB q s xb D i ⟨b.val * 128 + k.val, by omega⟩))

/-- The first moment's codes over a block. -/
def mcB (i : Fin 256) (o : Fin 2048) : BitVec 8 := codeK (mB q s xb D i o) (msB q s xb D i ⟨o.val / 128, by omega⟩)

/-- The codes of the root of the second moment over a block. -/
def scB (i : Fin 256) (o : Fin 2048) : BitVec 8 :=
  codeK (Ideal.sqrt (vB q s xb D i o)) (ssB q s xb D i ⟨o.val / 128, by omega⟩)

/-- One of the two reciprocals, loaded. -/
abbrev ldC (r : Vec Ideal S2 .f32) (p : Nat) (inb : ∀ a, (![p] : Fin 1 → Nat) a + (![1] : Fin 1 → Nat) a ≤ S2.size a)
    (hf : 0 < (Rect.unit (s := S2) ![p] ![1] inb).shape.numel) : Ideal .f32 :=
  View.ld r (Rect.unit (s := S2) ![p] ![1] inb) (Shape.Idx.first hf)

/-- A reciprocal loaded from the pair of them. -/
theorem ldC_at (r : Vec Ideal S2 .f32) (p : Nat) (inb hf) (i : Fin 2) (hi : i.val = p) : ldC r p inb hf = r (ix1 i) :=
  View.ld_unit_apply_of r _ _ inb _ (ix1 i) fun a => match a with
    | ⟨0, _⟩ => hi

/-- A tile of the step, at an entry of the block. -/
theorem step_at (r : Vec Ideal S2 .f32) (iq is iq' is' ig ih i1 f1 i2 f2) (z : S64x128.Idx) (y : S256x2048.Idx)
    (hi : (y 0).val = o0 + (z 0).val) (ho : (y 1).val = c0 + (z 1).val) (hb : c0 = 128 * b) (hg : c0 = gc + o1) :
    stepT (momT (ldT q o0 c0 iq) (ldS s o0 b is) (gradT xb D gc o0 o1 ig ih))
      (velT (ldT q' o0 c0 iq') (ldS s' o0 b is') (gradT xb D gc o0 o1 ig ih)) (ldC r 0 i1 f1) (ldC r 1 i2 f2) z
      = uB q s q' s' xb D r (y 0) (y 1) := by
  rw [stepT_apply, mom_at q s xb D o0 c0 b gc o1 iq is ig ih z (y 0) (y 1) hi ho hb hg,
    vel_at q' s' xb D o0 c0 b gc o1 iq' is' ig ih z (y 0) (y 1) hi ho hb hg, ldC_at r 0 i1 f1 0 rfl, ldC_at r 1 i2 f2 1 rfl]
  rfl

/-- A tile of the new weight, at an entry of the block. -/
theorem weight_at (w : Vec Ideal S256x2048 .bf16) (r : Vec Ideal S2 .f32) (iw iq is iq' is' ig ih i1 f1 i2 f2 e1 e2)
    (z : S64x128.Idx) (y : S256x2048.Idx)
    (hi : (y 0).val = o0 + (z 0).val) (ho : (y 1).val = c0 + (z 1).val) (hb : c0 = 128 * b) (hg : c0 = gc + o1) :
    truncf .bf16 (addf (extf (φ := .bf16) .f32 (ldT w o0 c0 iw) e1)
      (stepT (momT (ldT q o0 c0 iq) (ldS s o0 b is) (gradT xb D gc o0 o1 ig ih))
        (velT (ldT q' o0 c0 iq') (ldS s' o0 b is') (gradT xb D gc o0 o1 ig ih)) (ldC r 0 i1 f1) (ldC r 1 i2 f2))) e2 z
      = w (ix2 (y 0) (y 1)) + uB q s q' s' xb D r (y 0) (y 1) := by
  rw [← step_at q s q' s' xb D o0 c0 b gc o1 r iq is iq' is' ig ih i1 f1 i2 f2 z y hi ho hb hg,
    ← ldT_at w o0 c0 iw z (y 0) (y 1) hi ho]
  rfl

/-- The first moment's scales of a tile, at a row of the block. -/
theorem mscale_at (iq is ig ih hφ hacc) (x : S64x1.Idx) (y : S256x16.Idx) (hi : (y 0).val = o0 + (x 0).val)
    (hy : (y 1).val = b) (hb : c0 = 128 * b) (hg : c0 = gc + o1) :
    scaleT (absf (momT (ldT q o0 c0 iq) (ldS s o0 b is) (gradT xb D gc o0 o1 ig ih))) hφ hacc x
      = msB q s xb D (y 0) (y 1) := by
  obtain ⟨x0, x1, rfl⟩ : ∃ (x0 : Fin 64) (x1 : Fin 1), x = ix2 x0 x1 := ⟨x 0, x 1, (ix2_eta x).symm⟩
  obtain rfl : x1 = 0 := Subsingleton.elim _ _
  rw [scaleT_apply]
  unfold msB
  refine congrArg scaleK (congrArg top (funext fun k => congrArg mag ?_))
  exact mom_at q s xb D o0 c0 b gc o1 iq is ig ih (ix2 x0 k) (y 0) _ hi (by simp only [ix2_1]; omega) hb hg

/-- The second moment's scales of a tile, at a row of the block. -/
theorem sscale_at (iq is ig ih hφ hacc) (x : S64x1.Idx) (y : S256x16.Idx) (hi : (y 0).val = o0 + (x 0).val)
    (hy : (y 1).val = b) (hb : c0 = 128 * b) (hg : c0 = gc + o1) :
    scaleT (sqrt (velT (ldT q o0 c0 iq) (ldS s o0 b is) (gradT xb D gc o0 o1 ig ih))) hφ hacc x
      = ssB q s xb D (y 0) (y 1) := by
  obtain ⟨x0, x1, rfl⟩ : ∃ (x0 : Fin 64) (x1 : Fin 1), x = ix2 x0 x1 := ⟨x 0, x 1, (ix2_eta x).symm⟩
  obtain rfl : x1 = 0 := Subsingleton.elim _ _
  rw [scaleT_apply]
  unfold ssB
  refine congrArg scaleK (congrArg top (funext fun k => congrArg Ideal.sqrt ?_))
  exact vel_at q s xb D o0 c0 b gc o1 iq is ig ih (ix2 x0 k) (y 0) _ hi (by simp only [ix2_1]; omega) hb hg

/-- A tile of the first moment's codes, at an entry of the block. -/
theorem mcode_at (iq is ig ih hφ hacc) (z : S64x128.Idx) (y : S256x2048.Idx)
    (hi : (y 0).val = o0 + (z 0).val) (ho : (y 1).val = c0 + (z 1).val) (hb : c0 = 128 * b) (hg : c0 = gc + o1) :
    codeT (momT (ldT q o0 c0 iq) (ldS s o0 b is) (gradT xb D gc o0 o1 ig ih))
      (scaleT (absf (momT (ldT q o0 c0 iq) (ldS s o0 b is) (gradT xb D gc o0 o1 ig ih))) hφ hacc) z
      = mcB q s xb D (y 0) (y 1) := by
  have h1 : (z 1).val < 128 := (z 1).isLt
  have hy : (y 1).val < 2048 := (y 1).isLt
  have hd : (y 1).val / 128 = b := by omega
  have key := mom_at q s xb D o0 c0 b gc o1 iq is ig ih z (y 0) (y 1) hi ho hb hg
  obtain ⟨z0, z1, rfl⟩ : ∃ (z0 : Fin 64) (z1 : Fin 128), z = ix2 z0 z1 := ⟨z 0, z 1, (ix2_eta z).symm⟩
  rw [codeT_apply, key, mscale_at q s xb D o0 c0 b gc o1 iq is ig ih hφ hacc (ix2 z0 0) (ix2 (y 0) ⟨(y 1).val / 128, by omega⟩)
    hi hd hb hg]
  rfl

/-- A tile of the codes of the root of the second moment, at an entry of the block. -/
theorem scode_at (iq is ig ih hφ hacc) (z : S64x128.Idx) (y : S256x2048.Idx)
    (hi : (y 0).val = o0 + (z 0).val) (ho : (y 1).val = c0 + (z 1).val) (hb : c0 = 128 * b) (hg : c0 = gc + o1) :
    codeT (sqrt (velT (ldT q o0 c0 iq) (ldS s o0 b is) (gradT xb D gc o0 o1 ig ih)))
      (scaleT (sqrt (velT (ldT q o0 c0 iq) (ldS s o0 b is) (gradT xb D gc o0 o1 ig ih))) hφ hacc) z
      = scB q s xb D (y 0) (y 1) := by
  have h1 : (z 1).val < 128 := (z 1).isLt
  have hy : (y 1).val < 2048 := (y 1).isLt
  have hd : (y 1).val / 128 = b := by omega
  have key := congrArg Ideal.sqrt (vel_at q s xb D o0 c0 b gc o1 iq is ig ih z (y 0) (y 1) hi ho hb hg)
  obtain ⟨z0, z1, rfl⟩ : ∃ (z0 : Fin 64) (z1 : Fin 128), z = ix2 z0 z1 := ⟨z 0, z 1, (ix2_eta z).symm⟩
  rw [codeT_apply, sscale_at q s xb D o0 c0 b gc o1 iq is ig ih hφ hacc (ix2 z0 0) (ix2 (y 0) ⟨(y 1).val / 128, by omega⟩)
    hi hd hb hg]
  exact congrArg (codeK · _) key

end Tile

end Cert.KernelIdeal.Hand

end
-- ==== Proof.Buffers.lean ====
/- The kernel's two scratch buffers: the scaled output gradients, written at the first grid point and kept, and the scaled and
   transposed activations of the point's 256 rows, written at every point. What each holds, at an entry. -/
module

public import proofs.«01_k».proof.Proof.Chunk
public import proofs.«01_k».proof.Proof.Gen.KernelIdeal
public import Idealize.ShloMosaic.Lib.Pipeline.ReadBack
public import Idealize.ShloMosaic.Lib.Ring

@[expose] public section

set_option maxRecDepth 16384

noncomputable section

namespace Cert.KernelIdeal.Hand

open Cert.KernelIdeal Cert.KernelIdeal.Gen Idealize.ShloMosaic Idealize.SL.Sem Cert.Adam

/-- A load through a rectangle of a buffer filled by stores reads the buffer's contents there. -/
theorem readCov_ld {sig : RefSig} {κ : Kind} {sp : Space} {S : Shape} {e : EltTy} (v : View sig κ sp S e)
    (L : List (View.Piece (Elt Ideal) S e)) (r : Rect S) : v.readCov L r.toLoadRect = View.ld (View.canon L) r :=
  View.readCov_eq_canon' v L _

/-- A tile of 128 columns of scaled output gradients. -/
abbrev dyT (y : Vec Ideal S1792x128 .fp8e5m2) (s : Vec Ideal S1792x1 .f32) : FVec Ideal S1792x128 .bf16 :=
  shapeCast S1792x128 (mulf (extf .bf16 (shapeCast S1792x128 y shapeCasts_S1792x128_S1792x128 : FVec Ideal S1792x128 .fp8e5m2) bitsLt_fp8e5m2_bf16)
    (broadcastTo S1792x128 (truncf .bf16 (shapeCast S1792x1 s shapeCasts_S1792x1_S1792x1 : FVec Ideal S1792x1 .f32) bitsLt_bf16_f32) broadcasts_S1792x1_S1792x128))
    shapeCasts_S1792x128_S1792x128

/-- A tile of the scaled output gradients, entry by entry: the code times its row's scale. -/
theorem dyT_apply (y : Vec Ideal S1792x128 .fp8e5m2) (s : Vec Ideal S1792x1 .f32) (k : Fin 1792) (o : Fin 128) :
    dyT y s (ix2 k o) = y (ix2 k o) * s (ix2 k 0) := by
  pointwise [dyT]

/-- The scaled output gradients: each entry times its row's scale for the entry's block of 128 columns. -/
def dyB (y : S1792x2048.Idx → EReal) (s : S1792x16.Idx → EReal) : Vec Ideal S1792x2048 .bf16 :=
  fun j => y j * s (ix2 (j 0) ⟨(j 1).val / 128, by have h : (j 1).val < 2048 := (j 1).isLt; omega⟩)

/-- A tile of the scaled output gradients, at an entry of the buffer. -/
theorem dyT_at (x3 : Vec Ideal S1792x2048 .fp8e5m2) (x4 : Vec Ideal S1792x16 .f32) (c0 b : Nat) (i3 i4) (z : S1792x128.Idx)
    (j : S1792x2048.Idx) (h0 : (j 0).val = (z 0).val) (h1 : (j 1).val = c0 + (z 1).val) (hb : c0 = 128 * b) :
    dyT (View.ld x3 (Rect.unit (s := S1792x2048) ![0, c0] ![1792, 128] i3))
      (View.ld x4 (Rect.unit (s := S1792x16) ![0, b] ![1792, 1] i4)) z = dyB x3 x4 j := by
  have hz : (z 1).val < 128 := (z 1).isLt
  obtain ⟨z0, z1, rfl⟩ : ∃ (z0 : Fin 1792) (z1 : Fin 128), z = ix2 z0 z1 := ⟨z 0, z 1, (ix2_eta z).symm⟩
  rw [dyT_apply]
  unfold dyB
  refine congrArg₂ (· * ·) (View.ld_unit_apply_of x3 _ _ i3 _ j fun a => ?_) (View.ld_unit_apply_of x4 _ _ i4 _ _ fun a => ?_)
  · match a with
    | ⟨0, _⟩ => exact h0.trans (Nat.zero_add _).symm
    | ⟨1, _⟩ => exact h1
  · match a with
    | ⟨0, _⟩ => exact h0.trans (Nat.zero_add _).symm
    | ⟨1, _⟩ =>
      have hd : (j 1).val / 128 = b := by simp only [ix2_1] at h1 hz; omega
      exact hd.trans (Nat.add_zero _).symm

/-- A tile of 128 rows of scaled activations: the tokens' columns turned into rows, times the tokens' scales. -/
abbrev xT (s : Vec Ideal S1x1792 .f32) (x : Vec Ideal S1792x128 .fp8e4m3) : FVec Ideal S128x1792 .bf16 :=
  shapeCast S128x1792 (mulf (transpose S128x1792 [1, 0] (extf .bf16 (shapeCast S1792x128 x shapeCasts_S1792x128_S1792x128 : FVec Ideal S1792x128 .fp8e4m3) bitsLt_fp8e4m3_bf16)
      transposes_S1792x128_p1_0_S128x1792)
    (broadcastTo S128x1792 (truncf .bf16 (shapeCast S1x1792 s shapeCasts_S1x1792_S1x1792 : FVec Ideal S1x1792 .f32) bitsLt_bf16_f32) broadcasts_S1x1792_S128x1792))
    shapeCasts_S128x1792_S128x1792

/-- A tile of the scaled activations, entry by entry: the transposed code times its token's scale. -/
theorem xT_apply (s : Vec Ideal S1x1792 .f32) (x : Vec Ideal S1792x128 .fp8e4m3) (i : Fin 128) (k : Fin 1792) :
    xT s x (ix2 i k) = x (ix2 k i) * s (ix2 0 k) := by
  pointwise [xT]

/-- A grid point's number is below 28. -/
theorem pt_lt (i : grid0.Coords) : (i 0).val < 28 := (i 0).isLt

/-- The scaled activations of a point's 256 rows: row by token, times the token's scale for the row's block of 128. -/
def xB (i : grid0.Coords) (x : S1792x256.Idx → EReal) (s : S56x1792.Idx → EReal) : Vec Ideal S256x1792 .bf16 :=
  fun j => x (ix2 (j 1) (j 0)) * s (ix2 ⟨2 * (i 0).val + (j 0).val / 128, by
    have h : (j 0).val < 256 := (j 0).isLt
    have := pt_lt i
    omega⟩ (j 1))

/-- A tile of the scaled activations, at an entry of the buffer. -/
theorem xT_at (i : grid0.Coords) (x1 : Vec Ideal S1792x256 .fp8e4m3) (x2 : Vec Ideal S56x1792 .f32) (off : Fin 2 → Nat) (r : Nat)
    (i1) (i2 : ∀ a, off a + (![1, 1792] : Fin 2 → Nat) a ≤ S56x1792.size a) (z : S128x1792.Idx) (j : S256x1792.Idx)
    (ho : off = ![2 * (i 0).val + r, 0]) (h0 : (j 0).val = 128 * r + (z 0).val) (h1 : (j 1).val = (z 1).val) :
    xT (View.ld x2 (Rect.unit (s := S56x1792) off ![1, 1792] i2))
      (View.ld x1 (Rect.unit (s := S1792x256) ![0, 128 * r] ![1792, 128] i1)) z = xB i x1 x2 j := by
  subst ho
  have hz : (z 0).val < 128 := (z 0).isLt
  obtain ⟨z0, z1, rfl⟩ : ∃ (z0 : Fin 128) (z1 : Fin 1792), z = ix2 z0 z1 := ⟨z 0, z 1, (ix2_eta z).symm⟩
  rw [xT_apply]
  unfold xB
  refine congrArg₂ (· * ·) (View.ld_unit_apply_of x1 _ _ i1 _ _ fun a => ?_) (View.ld_unit_apply_of x2 _ _ i2 _ _ fun a => ?_)
  · match a with
    | ⟨0, _⟩ => exact h1.trans (Nat.zero_add _).symm
    | ⟨1, _⟩ => exact h0
  · match a with
    | ⟨0, _⟩ =>
      have hd : 2 * (i 0).val + (j 0).val / 128 = 2 * (i 0).val + r := by simp only [ix2_0] at h0 hz; omega
      exact hd.trans (Nat.add_zero _).symm
    | ⟨1, _⟩ => exact h1.trans (Nat.zero_add _).symm

/-- The two stores of activations, read back whole. -/
theorem xb_eq (i : grid0.Coords) (x1 : Vec Ideal S1792x256 .fp8e4m3) (x2 : Vec Ideal S56x1792 .f32) (p0 p1 i0 i1 i20 i21 iw) :
    (View.whole cc0_scratch1).readCov (Val := Elt Ideal)
      [⟨Rect.unit (s := S256x1792) ![128, 0] ![128, 1792] p1,
          xT (View.ld x2 (Rect.unit (s := S56x1792) (k0_off1 i 1#32) ![1, 1792] i21))
            (View.ld x1 (Rect.unit (s := S1792x256) ![0, 128] ![1792, 128] i1))⟩,
        ⟨Rect.unit (s := S256x1792) ![0, 0] ![128, 1792] p0,
          xT (View.ld x2 (Rect.unit (s := S56x1792) (k0_off1 i 0#32) ![1, 1792] i20))
            (View.ld x1 (Rect.unit (s := S1792x256) ![0, 0] ![1792, 128] i0))⟩]
      (Rect.unit (s := S256x1792) ![0, 0] ![256, 1792] iw).toLoadRect = xB i x1 x2 := by
  rw [readCov_ld]
  refine funext fun (y : S256x1792.Idx) => ?_
  refine (View.ld_unit_apply_of _ _ _ iw y y fun a => ?_).trans ?_
  · match a with
    | ⟨0, _⟩ => exact (Nat.zero_add _).symm
    | ⟨1, _⟩ => exact (Nat.zero_add _).symm
  · canon_tiles x h using View.cover_of_tiledL _ ![128, 1792] (by rfl) y
    · exact xT_at i x1 x2 _ 1 i1 i21 x y (k0_off1_eq i 1) (by omega) (by omega)
    · exact xT_at i x1 x2 _ 0 i0 i20 x y (k0_off1_eq i 0) (by omega) (by omega)

end Cert.KernelIdeal.Hand

end
-- ==== Proof.Carry.lean ====
/- The scaled output gradients stay in their scratch buffer: written at the first grid point from the whole array, they are there
   at every point. -/
module

public import proofs.«01_k».proof.Proof.Buffers
public import proofs.«01_k».proof.Proof.Gen.KernelIdeal.Value

@[expose] public section

set_option maxRecDepth 16384

noncomputable section

namespace Cert.KernelIdeal.Hand

open Cert.KernelIdeal Cert.KernelIdeal.Gen Idealize.ShloMosaic Idealize.SL.Sem Cert.Adam

variable (m : (ℓ : Loc nD τ sig) → Buf (Elt Ideal) ℓ)

/-- The whole array of output gradients is every point's block. -/
theorem dy_const (c : Dev nD) (t t' : Fin cfg0.N) : (iblk m c 3 t : Vec Ideal S1792x2048 .fp8e5m2) = iblk m c 3 t' := rfl

/-- So is the whole array of their scales. -/
theorem dys_const (c : Dev nD) (t t' : Fin cfg0.N) : (iblk m c 4 t : Vec Ideal S1792x16 .f32) = iblk m c 4 t' := rfl

set_option maxHeartbeats 4000000 in
/-- What the first point stores. -/
theorem dyb_A (c : Dev nD) (t : Fin cfg0.N) (h0 : t.val % 28 = 0) :
    (outsAt0 m c t.val t.isLt).2.2.2.2.2.2 = dyB (iblk m c 3 t) (iblk m c 4 t) := by
  rw [outsAt0_A m c t h0]
  dsimp only
  generalize iblk m c 0 t = x0, iblk m c 1 t = x1, iblk m c 2 t = x2, iblk m c 3 t = x3, iblk m c 4 t = x4,
    iblk m c 5 t = x5, iblk m c 6 t = x6, iblk m c 7 t = x7, iblk m c 8 t = x8, iblk m c 9 t = x9
  frame_out
  refine funext fun (y : S1792x2048.Idx) => ?_
  canon_tiles x h
  all_goals (open_payloads; refine dyT_at x3 x4 _ _ _ _ x y ?_ ?_ ?_ <;> omega)

/-- What is there after any point. -/
theorem dyb (c : Dev nD) : ∀ (n : ℕ) (hn : n < cfg0.N),
    (outsAt0 m c n hn).2.2.2.2.2.2 = dyB (iblk m c 3 ⟨n, hn⟩) (iblk m c 4 ⟨n, hn⟩)
  | 0, hn => dyb_A m c ⟨0, hn⟩ rfl
  | n + 1, hn => by
    have hN : n + 1 < 28 := lt_of_lt_of_eq hn (show cfg0.N = 28 from N_0)
    rw [outsAt0_B m c ⟨n + 1, hn⟩ (by show ¬(n + 1) % 28 = 0; omega)]
    exact dyb c n (by omega)

/-- The scaled input rows a grid point works on. -/
abbrev xAt (c : Dev nD) (t : Fin cfg0.N) : Vec Ideal S256x1792 .bf16 := xB (grid0.coords t) (iblk m c 1 t) (iblk m c 2 t)

/-- The scaled output gradients. -/
abbrev dAt (c : Dev nD) (t : Fin cfg0.N) : Vec Ideal S1792x2048 .bf16 := dyB (iblk m c 3 t) (iblk m c 4 t)

end Cert.KernelIdeal.Hand

end
-- ==== Proof.Entry.lean ====
/- What the kernel's blocks hold, in terms of the arguments. -/
module

public import proofs.«01_k».proof.Proof.Results
public import proofs.«01_k».proof.Proof.Carry
public import Idealize.ShloMosaic.Lib.StableHlo.ReadAt

@[expose] public section

set_option maxRecDepth 16384

noncomputable section

namespace Cert.KernelIdeal.Hand

open Cert.KernelIdeal Cert.KernelIdeal.Gen Idealize.ShloMosaic Idealize.SL.Sem Cert.Adam

variable (m : (ℓ : Loc nD τ sig) → Buf (Elt Ideal) ℓ)

/-- The arguments, read from the launch memory. -/
def args (c : Dev nD) : Args where
  x k i := (m ((c.tc : Thread nD τ).loc main_arg0) : Vec Ideal S1x1792x7168 .fp8e4m3) (ix3 0 k i)
  xs k b := (m ((c.tc : Thread nD τ).loc main_arg1) : Vec Ideal S1x1792x56 .f32) (ix3 0 k b)
  dy k o := (m ((c.tc : Thread nD τ).loc main_arg2) : Vec Ideal S1x1792x2048 .fp8e5m2) (ix3 0 k o)
  dys k b := (m ((c.tc : Thread nD τ).loc main_arg3) : Vec Ideal S1x1792x16 .f32) (ix3 0 k b)
  w i o := (m ((c.tc : Thread nD τ).loc main_arg4) : Vec Ideal S7168x2048 .bf16) (ix2 i o)
  mq i o := (m ((c.tc : Thread nD τ).loc main_arg5) : Vec Ideal S7168x2048 .i8) (ix2 i o)
  ms i b := (m ((c.tc : Thread nD τ).loc main_arg6) : Vec Ideal S7168x16 .f32) (ix2 i b)
  sq i o := (m ((c.tc : Thread nD τ).loc main_arg7) : Vec Ideal S7168x2048 .i8) (ix2 i o)
  ss i b := (m ((c.tc : Thread nD τ).loc main_arg8) : Vec Ideal S7168x16 .f32) (ix2 i b)
  t := (m ((c.tc : Thread nD τ).loc main_arg9) : Vec Ideal S_ .i32) (fun a => a.elim0)

/-! ## The arrays the grid finds -/

/-- The input codes: the argument without its leading axis. -/
theorem V_x (c : Dev nD) (k : Fin 1792) (i : Fin 7168) :
    (V m c main_v0 : Vec Ideal S1792x7168 .fp8e4m3) (ix2 k i) = (args m c).x k i := by
  unfold V
  after_reads_at
  rfl

/-- The input scales, transposed. -/
theorem V_xs (c : Dev nD) (b : Fin 56) (k : Fin 1792) :
    (V m c main_v2 : Vec Ideal S56x1792 .f32) (ix2 b k) = (args m c).xs k b := by
  unfold V
  after_reads_at
  rfl

/-- The output gradients' codes. -/
theorem V_dy (c : Dev nD) (k : Fin 1792) (o : Fin 2048) :
    (V m c main_v3 : Vec Ideal S1792x2048 .fp8e5m2) (ix2 k o) = (args m c).dy k o := by
  unfold V
  after_reads_at
  rfl

/-- The output gradients' scales. -/
theorem V_dys (c : Dev nD) (k : Fin 1792) (b : Fin 16) :
    (V m c main_v4 : Vec Ideal S1792x16 .f32) (ix2 k b) = (args m c).dys k b := by
  unfold V
  after_reads_at
  rfl

/-- The reciprocal of the first bias correction. -/
theorem V_c1 (c : Dev nD) : (V m c main_v14 : Vec Ideal S2 .f32) (ix1 0) = Ideal.div 1 (args m c).c1 := by
  unfold V
  after_reads_at
  rfl

/-- The reciprocal of the second bias correction. -/
theorem V_c2 (c : Dev nD) : (V m c main_v14 : Vec Ideal S2 .f32) (ix1 1) = Ideal.div 1 (args m c).c2 := by
  unfold V
  after_reads_at
  rfl

/-! ## The blocks -/

/-- The grid's coordinate is the point's number. -/
theorem coord_val : ∀ t : Fin grid0.N, (grid0.coords t 0).val = t.val := by decide +kernel

/-- Row `i` of point `t`'s block, among all the rows. -/
abbrev row (t : Fin cfg0.N) (i : Fin 256) : Fin 7168 :=
  ⟨256 * t.val + i.val, by have h := t.isLt; have hN : cfg0.N = 28 := N_0; omega⟩

/-- An index is known by its two coordinates. -/
theorem eq_ix2_of {a b : Nat} {z : (⟨2, ![a, b]⟩ : Shape).Idx} {i : Fin a} {j : Fin b} (h0 : (z 0).val = i.val)
    (h1 : (z 1).val = j.val) : z = ix2 i j := by
  rw [← ix2_eta z]
  exact congrArg₂ ix2 (Fin.ext h0) (Fin.ext h1)

/-- The reciprocals' block. -/
theorem iblk_bc (c : Dev nD) (t : Fin cfg0.N) (j : Fin 2) :
    (iblk m c 0 t : Vec Ideal S2 .f32) (ix1 j) = (V m c main_v14 : Vec Ideal S2 .f32) (ix1 j) := by
  have e := (by decide +kernel : ∀ t : Fin grid0.N, win0_0.index t = ![0]) t
  refine congrArg (V m c main_v14 : Vec Ideal S2 .f32) (funext fun a => Fin.ext ?_)
  match a with
  | ⟨0, _⟩ => show win0_0.index t (0 : Fin 1) * 2 + 1 * j.val = j.val; rw [e]; simp

/-- The input codes' block: all tokens, the point's 256 rows of the weights. -/
theorem iblk_x (c : Dev nD) (t : Fin cfg0.N) (k : Fin 1792) (i : Fin 256) :
    (iblk m c 1 t : Vec Ideal S1792x256 .fp8e4m3) (ix2 k i) = (args m c).x k (row t i) := by
  have e := (by decide +kernel : ∀ t : Fin grid0.N, win0_1.index t = ![0, t.val]) t
  exact (congrArg (V m c main_v0) (eq_ix2_of (i := k) (j := row t i)
    (show win0_1.index t (0 : Fin 2) * 1792 + 1 * k.val = k.val by rw [e]; simp)
    (show win0_1.index t (1 : Fin 2) * 256 + 1 * i.val = 256 * t.val + i.val by rw [e]; simp; omega))).trans (V_x m c k _)

/-- The input scales' block: all of them. -/
theorem iblk_xs (c : Dev nD) (t : Fin cfg0.N) (b : Fin 56) (k : Fin 1792) :
    (iblk m c 2 t : Vec Ideal S56x1792 .f32) (ix2 b k) = (args m c).xs k b := by
  have e := (by decide +kernel : ∀ t : Fin grid0.N, win0_2.index t = ![0, 0]) t
  exact (congrArg (V m c main_v2) (eq_ix2_of (i := b) (j := k)
    (show win0_2.index t (0 : Fin 2) * 56 + 1 * b.val = b.val by rw [e]; simp)
    (show win0_2.index t (1 : Fin 2) * 1792 + 1 * k.val = k.val by rw [e]; simp))).trans (V_xs m c _ _)

/-- The output gradients' block: all of them. -/
theorem iblk_dy (c : Dev nD) (t : Fin cfg0.N) (k : Fin 1792) (o : Fin 2048) :
    (iblk m c 3 t : Vec Ideal S1792x2048 .fp8e5m2) (ix2 k o) = (args m c).dy k o := by
  have e := (by decide +kernel : ∀ t : Fin grid0.N, win0_3.index t = ![0, 0]) t
  exact (congrArg (V m c main_v3) (eq_ix2_of (i := k) (j := o)
    (show win0_3.index t (0 : Fin 2) * 1792 + 1 * k.val = k.val by rw [e]; simp)
    (show win0_3.index t (1 : Fin 2) * 2048 + 1 * o.val = o.val by rw [e]; simp))).trans (V_dy m c _ _)

/-- Their scales' block: all of them. -/
theorem iblk_dys (c : Dev nD) (t : Fin cfg0.N) (k : Fin 1792) (b : Fin 16) :
    (iblk m c 4 t : Vec Ideal S1792x16 .f32) (ix2 k b) = (args m c).dys k b := by
  have e := (by decide +kernel : ∀ t : Fin grid0.N, win0_4.index t = ![0, 0]) t
  exact (congrArg (V m c main_v4) (eq_ix2_of (i := k) (j := b)
    (show win0_4.index t (0 : Fin 2) * 1792 + 1 * k.val = k.val by rw [e]; simp)
    (show win0_4.index t (1 : Fin 2) * 16 + 1 * b.val = b.val by rw [e]; simp))).trans (V_dys m c _ _)

/-- The weights' block: the point's 256 rows. -/
theorem iblk_w (c : Dev nD) (t : Fin cfg0.N) (i : Fin 256) (o : Fin 2048) :
    (iblk m c 5 t : Vec Ideal S256x2048 .bf16) (ix2 i o) = (args m c).w (row t i) o := by
  have e := (by decide +kernel : ∀ t : Fin grid0.N, win0_5.index t = ![t.val, 0]) t
  exact (congrArg (V m c main_arg4) (eq_ix2_of (i := row t i) (j := o)
    (show win0_5.index t (0 : Fin 2) * 256 + 1 * i.val = 256 * t.val + i.val by rw [e]; simp; omega)
    (show win0_5.index t (1 : Fin 2) * 2048 + 1 * o.val = o.val by rw [e]; simp))).trans (congrFun (V_main_arg4 m c) _)

/-- The first moment's codes. -/
theorem iblk_mq (c : Dev nD) (t : Fin cfg0.N) (i : Fin 256) (o : Fin 2048) :
    (iblk m c 6 t : Vec Ideal S256x2048 .i8) (ix2 i o) = (args m c).mq (row t i) o := by
  have e := (by decide +kernel : ∀ t : Fin grid0.N, win0_6.index t = ![t.val, 0]) t
  exact (congrArg (V m c main_arg5) (eq_ix2_of (i := row t i) (j := o)
    (show win0_6.index t (0 : Fin 2) * 256 + 1 * i.val = 256 * t.val + i.val by rw [e]; simp; omega)
    (show win0_6.index t (1 : Fin 2) * 2048 + 1 * o.val = o.val by rw [e]; simp))).trans (congrFun (V_main_arg5 m c) _)

/-- The first moment's scales. -/
theorem iblk_ms (c : Dev nD) (t : Fin cfg0.N) (i : Fin 256) (b : Fin 16) :
    (iblk m c 7 t : Vec Ideal S256x16 .f32) (ix2 i b) = (args m c).ms (row t i) b := by
  have e := (by decide +kernel : ∀ t : Fin grid0.N, win0_7.index t = ![t.val, 0]) t
  exact (congrArg (V m c main_arg6) (eq_ix2_of (i := row t i) (j := b)
    (show win0_7.index t (0 : Fin 2) * 256 + 1 * i.val = 256 * t.val + i.val by rw [e]; simp; omega)
    (show win0_7.index t (1 : Fin 2) * 16 + 1 * b.val = b.val by rw [e]; simp))).trans (congrFun (V_main_arg6 m c) _)

/-- The second moment's codes. -/
theorem iblk_sq (c : Dev nD) (t : Fin cfg0.N) (i : Fin 256) (o : Fin 2048) :
    (iblk m c 8 t : Vec Ideal S256x2048 .i8) (ix2 i o) = (args m c).sq (row t i) o := by
  have e := (by decide +kernel : ∀ t : Fin grid0.N, win0_8.index t = ![t.val, 0]) t
  exact (congrArg (V m c main_arg7) (eq_ix2_of (i := row t i) (j := o)
    (show win0_8.index t (0 : Fin 2) * 256 + 1 * i.val = 256 * t.val + i.val by rw [e]; simp; omega)
    (show win0_8.index t (1 : Fin 2) * 2048 + 1 * o.val = o.val by rw [e]; simp))).trans (congrFun (V_main_arg7 m c) _)

/-- The second moment's scales. -/
theorem iblk_ss (c : Dev nD) (t : Fin cfg0.N) (i : Fin 256) (b : Fin 16) :
    (iblk m c 9 t : Vec Ideal S256x16 .f32) (ix2 i b) = (args m c).ss (row t i) b := by
  have e := (by decide +kernel : ∀ t : Fin grid0.N, win0_9.index t = ![t.val, 0]) t
  exact (congrArg (V m c main_arg8) (eq_ix2_of (i := row t i) (j := b)
    (show win0_9.index t (0 : Fin 2) * 256 + 1 * i.val = 256 * t.val + i.val by rw [e]; simp; omega)
    (show win0_9.index t (1 : Fin 2) * 16 + 1 * b.val = b.val by rw [e]; simp))).trans (congrFun (V_main_arg8 m c) _)

end Cert.KernelIdeal.Hand

end
-- ==== Proof.Fold.lean ====
/- The kernel's blocks in terms of the arguments: each entry a grid point stores is the result's entry at its row. -/
module

public import proofs.«01_k».proof.Proof.Entry

@[expose] public section

set_option maxRecDepth 16384

noncomputable section

namespace Cert.KernelIdeal.Hand

open Cert.KernelIdeal Cert.KernelIdeal.Gen Idealize.ShloMosaic Idealize.SL.Sem Cert.Adam

variable (m : (ℓ : Loc nD τ sig) → Buf (Elt Ideal) ℓ) (c : Dev nD) (t : Fin cfg0.N) (i : Fin 256)

/-- The scaled rows at a row and a token, the row of scales named. -/
theorem xB_at (p : grid0.Coords) (x : Vec Ideal S1792x256 .fp8e4m3) (s : Vec Ideal S56x1792 .f32) (r : Fin 256) (k : Fin 1792)
    (b : Fin 56) (hb : b.val = 2 * (p 0).val + r.val / 128) : xB p x s (ix2 r k) = x (ix2 k r) * s (ix2 b k) :=
  congrArg (fun b => x (ix2 k r) * s (ix2 b k)) (Fin.ext hb.symm)

/-- The scaled inputs at a row and a token. -/
theorem xAt_eq (k : Fin 1792) : xAt m c t (ix2 i k)
    = (args m c).x k (row t i) * (args m c).xs k ⟨(row t i).val / 128, by have h := (row t i).isLt; omega⟩ := by
  refine (xB_at (grid0.coords t) (iblk m c 1 t) (iblk m c 2 t) i k _ ?_).trans (congrArg₂ (· * ·) (iblk_x m c t k i) (iblk_xs m c t _ k))
  show (256 * t.val + i.val) / 128 = 2 * (grid0.coords t 0).val + i.val / 128
  rw [coord_val]
  omega

/-- The scaled output gradients at a token and a column. -/
theorem dAt_eq (k : Fin 1792) (o : Fin 2048) : dAt m c t (ix2 k o)
    = (args m c).dy k o * (args m c).dys k ⟨o.val / 128, by omega⟩ := by
  rw [← iblk_dy m c t, ← iblk_dys m c t]
  rfl

/-- The gradient. -/
theorem grad_eq (o : Fin 2048) : gB (xAt m c t) (dAt m c t) i o = (args m c).grad (row t i) o :=
  Finset.sum_congr rfl fun k _ => by rw [xAt_eq, dAt_eq]

/-- The first moment. -/
theorem m1_eq (o : Fin 2048) :
    mB (iblk m c 6 t) (iblk m c 7 t) (xAt m c t) (dAt m c t) i o = (args m c).m1 (row t i) o := by
  unfold mB Args.m1
  rw [grad_eq, ← iblk_mq, ← iblk_ms]

/-- The second moment. -/
theorem m2_eq (o : Fin 2048) :
    vB (iblk m c 8 t) (iblk m c 9 t) (xAt m c t) (dAt m c t) i o = (args m c).m2 (row t i) o := by
  unfold vB Args.m2
  rw [grad_eq, ← iblk_sq, ← iblk_ss]

/-- The update, once the step counter is not zero: multiplying by a bias correction's reciprocal is then dividing by it. -/
theorem upd_eq (ht : (args m c).t ≠ 0#32) (o : Fin 2048) :
    uB (iblk m c 6 t) (iblk m c 7 t) (iblk m c 8 t) (iblk m c 9 t) (xAt m c t) (dAt m c t) (iblk m c 0 t) i o
      = (args m c).upd (row t i) o := by
  unfold uB Args.upd
  rw [m1_eq, m2_eq, iblk_bc, iblk_bc, V_c1, V_c2]
  exact stepK_eq (corr1_ne ht) (corr2_ne ht) _ _

/-- The new weight. -/
theorem wNew_eq (ht : (args m c).t ≠ 0#32) (o : Fin 2048) :
    wB (iblk m c 6 t) (iblk m c 7 t) (iblk m c 8 t) (iblk m c 9 t) (xAt m c t) (dAt m c t) (iblk m c 5 t) (iblk m c 0 t) i o
      = (args m c).wNew (row t i) o := by
  unfold wB Args.wNew
  rw [upd_eq m c t i ht, ← iblk_w]

/-- The first moment's scale. -/
theorem msNew_eq (b : Fin 16) :
    msB (iblk m c 6 t) (iblk m c 7 t) (xAt m c t) (dAt m c t) i b = (args m c).msNew (row t i) b := by
  unfold msB Args.msNew
  rw [scaleK_eq]
  simp only [m1_eq]

/-- The scale of the second moment's root: the root is its own magnitude. -/
theorem ssNew_eq (b : Fin 16) :
    ssB (iblk m c 8 t) (iblk m c 9 t) (xAt m c t) (dAt m c t) i b = (args m c).ssNew (row t i) b := by
  unfold ssB Args.ssNew
  rw [scaleK_eq]
  simp only [m2_eq]
  exact congrArg scaleR (congrArg top (funext fun k => (mag_root _ _ _).symm))

/-- The first moment's code: multiplying by a scale's reciprocal is dividing by the scale. -/
theorem mqNew_eq (o : Fin 2048) :
    mcB (iblk m c 6 t) (iblk m c 7 t) (xAt m c t) (dAt m c t) i o = (args m c).mqNew (row t i) o := by
  unfold mcB Args.mqNew
  rw [msNew_eq, m1_eq]
  exact codeK_eq _ _

/-- The code of the second moment's root. -/
theorem sqNew_eq (o : Fin 2048) :
    scB (iblk m c 8 t) (iblk m c 9 t) (xAt m c t) (dAt m c t) i o = (args m c).sqNew (row t i) o := by
  unfold scB Args.sqNew
  rw [ssNew_eq, m2_eq]
  exact codeK_eq _ _

end Cert.KernelIdeal.Hand

end
-- ==== Proof.BlockStep.lean ====
/- What one grid point leaves in the staging buffers of the new weights and of the update, entry by entry: each of the 64 tiles it
   stores is the block's formula at the tile's entries. -/
module

public import proofs.«01_k».proof.Proof.Carry

@[expose] public section

set_option maxRecDepth 16384

noncomputable section

namespace Cert.KernelIdeal.Hand

open Cert.KernelIdeal Cert.KernelIdeal.Gen Idealize.ShloMosaic Idealize.SL.Sem Cert.Adam

variable (m : (ℓ : Loc nD τ sig) → Buf (Elt Ideal) ℓ)

set_option maxHeartbeats 4000000 in
/-- What it stores of the new weights. -/
theorem weight_block (c : Dev nD) (t : Fin cfg0.N) (y : S256x2048.Idx) :
    (outsAt0 m c t.val t.isLt).1 y = wB (iblk m c 6 t) (iblk m c 7 t) (iblk m c 8 t) (iblk m c 9 t) (xAt m c t) (dAt m c t) (iblk m c 5 t) (iblk m c 0 t) (y 0) (y 1) := by
  have hd := dyb m c t.val t.isLt
  have hp : (outsAt0 m c (t.val - 1) (by have := t.isLt; omega)).2.2.2.2.2.2 = dAt m c t := dyb m c _ _
  by_cases h0 : t.val % 28 = 0 <;> [rw [outsAt0_A m c t h0] at hd ⊢; rw [outsAt0_B m c t h0, hp]]
  all_goals
    dsimp only [xAt, dAt] at hd ⊢
    clear hp
    generalize iblk m c 0 t = x0, iblk m c 1 t = x1, iblk m c 2 t = x2, iblk m c 3 t = x3, iblk m c 4 t = x4,
      iblk m c 5 t = x5, iblk m c 6 t = x6, iblk m c 7 t = x7, iblk m c 8 t = x8, iblk m c 9 t = x9 at hd ⊢
    frame_out at hd ⊢
    try simp only [read_unread_whole]
    generalize hX : View.readCov (Val := Elt Ideal) (View.whole cc0_scratch1) _ _ = xb
    obtain rfl := hX.symm.trans (xb_eq (grid0.coords t) x1 x2 _ _ _ _ _ _ _)
    try simp only [readCov_ld]
    try rw [hd]
    clear hd
    generalize xB (grid0.coords t) x1 x2 = xb, dyB x3 x4 = D
    canon_tiles x h
    all_goals (open_payloads; refine weight_at _ _ _ _ _ _ _ _ _ _ _ _ _ _ _ _ _ _ _ _ _ _ _ _ _ _ x y ?_ ?_ ?_ ?_ <;> omega)

set_option maxHeartbeats 4000000 in
/-- What it stores of the update. -/
theorem step_block (c : Dev nD) (t : Fin cfg0.N) (y : S256x2048.Idx) :
    (outsAt0 m c t.val t.isLt).2.1 y = uB (iblk m c 6 t) (iblk m c 7 t) (iblk m c 8 t) (iblk m c 9 t) (xAt m c t) (dAt m c t) (iblk m c 0 t) (y 0) (y 1) := by
  have hd := dyb m c t.val t.isLt
  have hp : (outsAt0 m c (t.val - 1) (by have := t.isLt; omega)).2.2.2.2.2.2 = dAt m c t := dyb m c _ _
  by_cases h0 : t.val % 28 = 0 <;> [rw [outsAt0_A m c t h0] at hd ⊢; rw [outsAt0_B m c t h0, hp]]
  all_goals
    dsimp only [xAt, dAt] at hd ⊢
    clear hp
    generalize iblk m c 0 t = x0, iblk m c 1 t = x1, iblk m c 2 t = x2, iblk m c 3 t = x3, iblk m c 4 t = x4,
      iblk m c 5 t = x5, iblk m c 6 t = x6, iblk m c 7 t = x7, iblk m c 8 t = x8, iblk m c 9 t = x9 at hd ⊢
    frame_out at hd ⊢
    try simp only [read_unread_whole]
    generalize hX : View.readCov (Val := Elt Ideal) (View.whole cc0_scratch1) _ _ = xb
    obtain rfl := hX.symm.trans (xb_eq (grid0.coords t) x1 x2 _ _ _ _ _ _ _)
    try simp only [readCov_ld]
    try rw [hd]
    clear hd
    generalize xB (grid0.coords t) x1 x2 = xb, dyB x3 x4 = D
    canon_tiles x h
    all_goals (open_payloads; refine step_at _ _ _ _ _ _ _ _ _ _ _ _ _ _ _ _ _ _ _ _ _ _ x y ?_ ?_ ?_ ?_ <;> omega)

end Cert.KernelIdeal.Hand

end
-- ==== Proof.BlockMoment.lean ====
/- What one grid point leaves in the staging buffers of the first moment's codes and scales, entry by entry. -/
module

public import proofs.«01_k».proof.Proof.Carry

@[expose] public section

set_option maxRecDepth 16384

noncomputable section

namespace Cert.KernelIdeal.Hand

open Cert.KernelIdeal Cert.KernelIdeal.Gen Idealize.ShloMosaic Idealize.SL.Sem Cert.Adam

variable (m : (ℓ : Loc nD τ sig) → Buf (Elt Ideal) ℓ)

set_option maxHeartbeats 4000000 in
/-- What it stores of the codes of the first moment. -/
theorem mcode_block (c : Dev nD) (t : Fin cfg0.N) (y : S256x2048.Idx) :
    (outsAt0 m c t.val t.isLt).2.2.1 y = mcB (iblk m c 6 t) (iblk m c 7 t) (xAt m c t) (dAt m c t) (y 0) (y 1) := by
  have hd := dyb m c t.val t.isLt
  have hp : (outsAt0 m c (t.val - 1) (by have := t.isLt; omega)).2.2.2.2.2.2 = dAt m c t := dyb m c _ _
  by_cases h0 : t.val % 28 = 0 <;> [rw [outsAt0_A m c t h0] at hd ⊢; rw [outsAt0_B m c t h0, hp]]
  all_goals
    dsimp only [xAt, dAt] at hd ⊢
    clear hp
    generalize iblk m c 0 t = x0, iblk m c 1 t = x1, iblk m c 2 t = x2, iblk m c 3 t = x3, iblk m c 4 t = x4,
      iblk m c 5 t = x5, iblk m c 6 t = x6, iblk m c 7 t = x7, iblk m c 8 t = x8, iblk m c 9 t = x9 at hd ⊢
    frame_out at hd ⊢
    try simp only [read_unread_whole]
    generalize hX : View.readCov (Val := Elt Ideal) (View.whole cc0_scratch1) _ _ = xb
    obtain rfl := hX.symm.trans (xb_eq (grid0.coords t) x1 x2 _ _ _ _ _ _ _)
    try simp only [readCov_ld]
    try rw [hd]
    clear hd
    generalize xB (grid0.coords t) x1 x2 = xb, dyB x3 x4 = D
    canon_tiles x h
    all_goals (open_payloads; refine mcode_at _ _ _ _ _ _ _ _ _ _ _ _ _ _ _ x y ?_ ?_ ?_ ?_ <;> omega)

set_option maxHeartbeats 4000000 in
/-- What it stores of the scales of the first moment. -/
theorem mscale_block (c : Dev nD) (t : Fin cfg0.N) (y : S256x16.Idx) :
    (outsAt0 m c t.val t.isLt).2.2.2.1 y = msB (iblk m c 6 t) (iblk m c 7 t) (xAt m c t) (dAt m c t) (y 0) (y 1) := by
  have hd := dyb m c t.val t.isLt
  have hp : (outsAt0 m c (t.val - 1) (by have := t.isLt; omega)).2.2.2.2.2.2 = dAt m c t := dyb m c _ _
  by_cases h0 : t.val % 28 = 0 <;> [rw [outsAt0_A m c t h0] at hd ⊢; rw [outsAt0_B m c t h0, hp]]
  all_goals
    dsimp only [xAt, dAt] at hd ⊢
    clear hp
    generalize iblk m c 0 t = x0, iblk m c 1 t = x1, iblk m c 2 t = x2, iblk m c 3 t = x3, iblk m c 4 t = x4,
      iblk m c 5 t = x5, iblk m c 6 t = x6, iblk m c 7 t = x7, iblk m c 8 t = x8, iblk m c 9 t = x9 at hd ⊢
    frame_out at hd ⊢
    try simp only [read_unread_whole]
    generalize hX : View.readCov (Val := Elt Ideal) (View.whole cc0_scratch1) _ _ = xb
    obtain rfl := hX.symm.trans (xb_eq (grid0.coords t) x1 x2 _ _ _ _ _ _ _)
    try simp only [readCov_ld]
    try rw [hd]
    clear hd
    generalize xB (grid0.coords t) x1 x2 = xb, dyB x3 x4 = D
    canon_tiles x h
    all_goals (open_payloads; refine mscale_at _ _ _ _ _ _ _ _ _ _ _ _ _ _ _ x y ?_ ?_ ?_ ?_ <;> omega)

end Cert.KernelIdeal.Hand

end
-- ==== Proof.BlockRoot.lean ====
/- What one grid point leaves in the staging buffers of the codes and scales of the second moment's root, entry by entry. -/
module

public import proofs.«01_k».proof.Proof.Carry

@[expose] public section

set_option maxRecDepth 16384

noncomputable section

namespace Cert.KernelIdeal.Hand

open Cert.KernelIdeal Cert.KernelIdeal.Gen Idealize.ShloMosaic Idealize.SL.Sem Cert.Adam

variable (m : (ℓ : Loc nD τ sig) → Buf (Elt Ideal) ℓ)

set_option maxHeartbeats 4000000 in
/-- What it stores of the codes of the root of the second moment. -/
theorem scode_block (c : Dev nD) (t : Fin cfg0.N) (y : S256x2048.Idx) :
    (outsAt0 m c t.val t.isLt).2.2.2.2.1 y = scB (iblk m c 8 t) (iblk m c 9 t) (xAt m c t) (dAt m c t) (y 0) (y 1) := by
  have hd := dyb m c t.val t.isLt
  have hp : (outsAt0 m c (t.val - 1) (by have := t.isLt; omega)).2.2.2.2.2.2 = dAt m c t := dyb m c _ _
  by_cases h0 : t.val % 28 = 0 <;> [rw [outsAt0_A m c t h0] at hd ⊢; rw [outsAt0_B m c t h0, hp]]
  all_goals
    dsimp only [xAt, dAt] at hd ⊢
    clear hp
    generalize iblk m c 0 t = x0, iblk m c 1 t = x1, iblk m c 2 t = x2, iblk m c 3 t = x3, iblk m c 4 t = x4,
      iblk m c 5 t = x5, iblk m c 6 t = x6, iblk m c 7 t = x7, iblk m c 8 t = x8, iblk m c 9 t = x9 at hd ⊢
    frame_out at hd ⊢
    try simp only [read_unread_whole]
    generalize hX : View.readCov (Val := Elt Ideal) (View.whole cc0_scratch1) _ _ = xb
    obtain rfl := hX.symm.trans (xb_eq (grid0.coords t) x1 x2 _ _ _ _ _ _ _)
    try simp only [readCov_ld]
    try rw [hd]
    clear hd
    generalize xB (grid0.coords t) x1 x2 = xb, dyB x3 x4 = D
    canon_tiles x h
    all_goals (open_payloads; refine scode_at _ _ _ _ _ _ _ _ _ _ _ _ _ _ _ x y ?_ ?_ ?_ ?_ <;> omega)

set_option maxHeartbeats 4000000 in
/-- What it stores of the scales of the root of the second moment. -/
theorem sscale_block (c : Dev nD) (t : Fin cfg0.N) (y : S256x16.Idx) :
    (outsAt0 m c t.val t.isLt).2.2.2.2.2.1 y = ssB (iblk m c 8 t) (iblk m c 9 t) (xAt m c t) (dAt m c t) (y 0) (y 1) := by
  have hd := dyb m c t.val t.isLt
  have hp : (outsAt0 m c (t.val - 1) (by have := t.isLt; omega)).2.2.2.2.2.2 = dAt m c t := dyb m c _ _
  by_cases h0 : t.val % 28 = 0 <;> [rw [outsAt0_A m c t h0] at hd ⊢; rw [outsAt0_B m c t h0, hp]]
  all_goals
    dsimp only [xAt, dAt] at hd ⊢
    clear hp
    generalize iblk m c 0 t = x0, iblk m c 1 t = x1, iblk m c 2 t = x2, iblk m c 3 t = x3, iblk m c 4 t = x4,
      iblk m c 5 t = x5, iblk m c 6 t = x6, iblk m c 7 t = x7, iblk m c 8 t = x8, iblk m c 9 t = x9 at hd ⊢
    frame_out at hd ⊢
    try simp only [read_unread_whole]
    generalize hX : View.readCov (Val := Elt Ideal) (View.whole cc0_scratch1) _ _ = xb
    obtain rfl := hX.symm.trans (xb_eq (grid0.coords t) x1 x2 _ _ _ _ _ _ _)
    try simp only [readCov_ld]
    try rw [hd]
    clear hd
    generalize xB (grid0.coords t) x1 x2 = xb, dyB x3 x4 = D
    canon_tiles x h
    all_goals (open_payloads; refine sscale_at _ _ _ _ _ _ _ _ _ _ _ _ _ _ _ x y ?_ ?_ ?_ ?_ <;> omega)

end Cert.KernelIdeal.Hand

end
-- ==== Proof.Arrays.lean ====
/- The kernel's six result arrays after the run, entry by entry. -/
module

public import proofs.«01_k».proof.Proof.Fold
public import proofs.«01_k».proof.Proof.BlockStep
public import proofs.«01_k».proof.Proof.BlockMoment
public import proofs.«01_k».proof.Proof.BlockRoot

@[expose] public section

set_option maxRecDepth 16384

noncomputable section

namespace Cert.KernelIdeal.Hand

open Cert.KernelIdeal Cert.KernelIdeal.Gen Idealize.ShloMosaic Idealize.SL.Sem Cert.Adam

variable (m : (ℓ : Loc nD τ sig) → Buf (Elt Ideal) ℓ) (c : Dev nD)

/-- A function of a row and a column, read where point `t`'s block sends the entry `y`. -/
theorem at_emb {n : Nat} {α : Type} (f : Fin 7168 → Fin n → α) (t : Fin cfg0.N) (y : (⟨2, ![256, n]⟩ : Shape).Idx)
    (z : (⟨2, ![7168, n]⟩ : Shape).Idx) (h0 : (z 0).val = 256 * t.val + (y 0).val) (h1 : (z 1).val = (y 1).val) :
    f (row t (y 0)) (y 1) = f (z 0) (z 1) :=
  congrArg₂ f (Fin.ext h0.symm) (Fin.ext h1.symm)

/-- The new weights. -/
theorem result10 (ht : (args m c).t ≠ 0#32) : (dats m 0 c).arrAt 10 cfg0.N = fun j : S7168x2048.Idx => (args m c).wNew (j 0) (j 1) := by
  refine (dats m 0 c).arrAt_eq_of_covers 10 _ (by decide +kernel) fun t hf y => ?_
  have e := (by decide +kernel : ∀ t : Fin grid0.N, win0_10.index t = ![t.val, 0]) t
  rw [after0_10]
  refine (weight_block m c t y).trans ((wNew_eq m c t _ ht _).trans ?_)
  refine at_emb (args m c).wNew t y (((cfg0.win 10).blk t).view.emb y) ?_ ?_
  · show win0_10.index t (0 : Fin 2) * 256 + 1 * (y 0).val = 256 * t.val + (y 0).val; rw [e]; simp; omega
  · show win0_10.index t (1 : Fin 2) * 2048 + 1 * (y 1).val = (y 1).val; rw [e]; simp

/-- The update. -/
theorem result11 (ht : (args m c).t ≠ 0#32) : (dats m 0 c).arrAt 11 cfg0.N = fun j : S7168x2048.Idx => (args m c).upd (j 0) (j 1) := by
  refine (dats m 0 c).arrAt_eq_of_covers 11 _ (by decide +kernel) fun t hf y => ?_
  have e := (by decide +kernel : ∀ t : Fin grid0.N, win0_11.index t = ![t.val, 0]) t
  rw [after0_11]
  refine (step_block m c t y).trans ((upd_eq m c t _ ht _).trans ?_)
  refine at_emb (args m c).upd t y (((cfg0.win 11).blk t).view.emb y) ?_ ?_
  · show win0_11.index t (0 : Fin 2) * 256 + 1 * (y 0).val = 256 * t.val + (y 0).val; rw [e]; simp; omega
  · show win0_11.index t (1 : Fin 2) * 2048 + 1 * (y 1).val = (y 1).val; rw [e]; simp

/-- The first moment's codes. -/
theorem result12 : (dats m 0 c).arrAt 12 cfg0.N = fun j : S7168x2048.Idx => (args m c).mqNew (j 0) (j 1) := by
  refine (dats m 0 c).arrAt_eq_of_covers 12 _ (by decide +kernel) fun t hf y => ?_
  have e := (by decide +kernel : ∀ t : Fin grid0.N, win0_12.index t = ![t.val, 0]) t
  rw [after0_12]
  refine (mcode_block m c t y).trans ((mqNew_eq m c t _ _).trans ?_)
  refine at_emb (args m c).mqNew t y (((cfg0.win 12).blk t).view.emb y) ?_ ?_
  · show win0_12.index t (0 : Fin 2) * 256 + 1 * (y 0).val = 256 * t.val + (y 0).val; rw [e]; simp; omega
  · show win0_12.index t (1 : Fin 2) * 2048 + 1 * (y 1).val = (y 1).val; rw [e]; simp

/-- The first moment's scales. -/
theorem result13 : (dats m 0 c).arrAt 13 cfg0.N = fun j : S7168x16.Idx => (args m c).msNew (j 0) (j 1) := by
  refine (dats m 0 c).arrAt_eq_of_covers 13 _ (by decide +kernel) fun t hf y => ?_
  have e := (by decide +kernel : ∀ t : Fin grid0.N, win0_13.index t = ![t.val, 0]) t
  rw [after0_13]
  refine (mscale_block m c t y).trans ((msNew_eq m c t _ _).trans ?_)
  refine at_emb (args m c).msNew t y (((cfg0.win 13).blk t).view.emb y) ?_ ?_
  · show win0_13.index t (0 : Fin 2) * 256 + 1 * (y 0).val = 256 * t.val + (y 0).val; rw [e]; simp; omega
  · show win0_13.index t (1 : Fin 2) * 16 + 1 * (y 1).val = (y 1).val; rw [e]; simp

/-- The codes of the second moment's root. -/
theorem result14 : (dats m 0 c).arrAt 14 cfg0.N = fun j : S7168x2048.Idx => (args m c).sqNew (j 0) (j 1) := by
  refine (dats m 0 c).arrAt_eq_of_covers 14 _ (by decide +kernel) fun t hf y => ?_
  have e := (by decide +kernel : ∀ t : Fin grid0.N, win0_14.index t = ![t.val, 0]) t
  rw [after0_14]
  refine (scode_block m c t y).trans ((sqNew_eq m c t _ _).trans ?_)
  refine at_emb (args m c).sqNew t y (((cfg0.win 14).blk t).view.emb y) ?_ ?_
  · show win0_14.index t (0 : Fin 2) * 256 + 1 * (y 0).val = 256 * t.val + (y 0).val; rw [e]; simp; omega
  · show win0_14.index t (1 : Fin 2) * 2048 + 1 * (y 1).val = (y 1).val; rw [e]; simp

/-- The scales of the second moment's root. -/
theorem result15 : (dats m 0 c).arrAt 15 cfg0.N = fun j : S7168x16.Idx => (args m c).ssNew (j 0) (j 1) := by
  refine (dats m 0 c).arrAt_eq_of_covers 15 _ (by decide +kernel) fun t hf y => ?_
  have e := (by decide +kernel : ∀ t : Fin grid0.N, win0_15.index t = ![t.val, 0]) t
  rw [after0_15]
  refine (sscale_block m c t y).trans ((ssNew_eq m c t _ _).trans ?_)
  refine at_emb (args m c).ssNew t y (((cfg0.win 15).blk t).view.emb y) ?_ ?_
  · show win0_15.index t (0 : Fin 2) * 256 + 1 * (y 0).val = 256 * t.val + (y 0).val; rw [e]; simp; omega
  · show win0_15.index t (1 : Fin 2) * 16 + 1 * (y 1).val = (y 1).val; rw [e]; simp

end Cert.KernelIdeal.Hand

end
-- ==== Proof.RefOps.lean ====
/- The reference's stored values read at an index: each payload of its one body, over the arrays it loads, is the
   element-wise formula of `Proof.Spec`. -/
module

public import proofs.«01_k».proof.Proof.Gen.ReferenceIdeal.Skeleton
public import proofs.«01_k».proof.Proof.Top
public import Idealize.ShloMosaic.Lib.Pointwise

@[expose] public section

set_option maxRecDepth 16384

noncomputable section

namespace Cert.ReferenceIdeal.Hand

open Cert.ReferenceIdeal Cert.ReferenceIdeal.Gen Idealize.ShloMosaic Idealize.SL.Sem Cert.Adam

variable [h : Cert.ReferenceIdeal.Facts]

/-- The gradient at a weight: the sum over tokens of the scaled activation times the scaled output gradient. -/
theorem grad_apply (x : Vec Ideal S1x1792x7168 .fp8e4m3) (xs : Vec Ideal S1x1792x56 .f32)
    (dy : Vec Ideal S1x1792x2048 .fp8e5m2) (dys : Vec Ideal S1x1792x16 .f32) (i : Fin 7168) (o : Fin 2048) :
    k0_pay5 x xs dy dys (ix2 i o) = ∑ k : Fin 1792, x (ix3 0 k i) * xs (ix3 0 k ⟨i.val / 128, by omega⟩)
      * (dy (ix3 0 k o) * dys (ix3 0 k ⟨o.val / 128, by omega⟩)) := by
  pointwise [k0_pay5]
  exact Fintype.sum_unique _

/-- The new first moment at a weight. -/
theorem mom_apply (g : FVec Ideal S7168x2048 .f32) (q : Vec Ideal S7168x2048 .i8) (sc : Vec Ideal S7168x16 .f32)
    (i : Fin 7168) (o : Fin 2048) :
    k0_pay8 g (k0_pay7 q sc) (ix2 i o) = mom (q (ix2 i o)) (sc (ix2 i ⟨o.val / 128, by omega⟩)) (g (ix2 i o)) := by
  pointwise [k0_pay8, k0_pay7]
  rfl

/-- The new second moment at a weight. -/
theorem vel_apply (g : FVec Ideal S7168x2048 .f32) (q : Vec Ideal S7168x2048 .i8) (sc : Vec Ideal S7168x16 .f32)
    (i : Fin 7168) (o : Fin 2048) :
    k0_pay9 g (k0_pay6 q sc) (ix2 i o) = vel (q (ix2 i o)) (sc (ix2 i ⟨o.val / 128, by omega⟩)) (g (ix2 i o)) := by
  pointwise [k0_pay9, k0_pay6]
  rfl

/-- The step at a weight, from the two new moments there. -/
theorem step_apply (g p s : FVec Ideal S7168x2048 .f32) (c1 c2 : EReal) (j : S7168x2048.Idx) :
    k0_pay10 g s p c1 c2 j = stepR c1 c2 (k0_pay8 g p j) (k0_pay9 g s j) := by
  unfold k0_pay10
  generalize k0_pay8 g p = a
  generalize k0_pay9 g s = b
  pointwise
  rfl

/-- The new weight: the old one plus the step. -/
theorem weight_apply (g p s : FVec Ideal S7168x2048 .f32) (c1 c2 : EReal) (w : Vec Ideal S7168x2048 .bf16)
    (j : S7168x2048.Idx) :
    k0_pay11 g s p c1 c2 w j = w j + k0_pay10 g s p c1 c2 j := by
  unfold k0_pay11
  generalize k0_pay10 g s p c1 c2 = a
  pointwise

/-- The scale made of an array of block maxima, at a block. -/
theorem scale_of (M : FVec Ideal S7168x16 .f32) (j : S7168x16.Idx) :
    select (cmpf .oeq M (broadcast S7168x16 (Scalar.ofBits .f32 0x00000000#32 : Ideal .f32)))
      (broadcast S7168x16 (Scalar.ofBits .f32 0x3F800000#32 : Ideal .f32))
      (divf M (broadcast S7168x16 (Scalar.ofBits .f32 0x42FE0000#32 : Ideal .f32))) j = scaleR (M j) := by
  pointwise
  rfl

/-- Rounded quotients clipped and cast to codes, at an entry. -/
theorem code_of (v : FVec Ideal S7168x16x128 .f32) (s : FVec Ideal S7168x16x1 .f32) (i : Fin 7168) (o : Fin 2048) :
    k0_pay1 (roundeven (divf v (broadcastTo S7168x16x128 s broadcasts_S7168x16x1_S7168x16x128))) 4294967169#32 (ix2 i o)
      = codeR (v (ix3 i ⟨o.val / 128, by omega⟩ ⟨o.val % 128, by omega⟩)) (s (ix3 i ⟨o.val / 128, by omega⟩ 0)) := by
  pointwise [k0_pay1]
  rfl

/-- The first moment cut into blocks of 128 along its rows. -/
theorem mcut_apply (g p : FVec Ideal S7168x2048 .f32) (i : Fin 7168) (b : Fin 16) (q : Fin 128) :
    k0_pay12 g p (ix3 i b q) = k0_pay8 g p (ix2 i ⟨b.val * 128 + q.val, by omega⟩) := by
  unfold k0_pay12
  generalize k0_pay8 g p = a
  pointwise

/-- The root of the second moment cut into blocks of 128 along its rows. -/
theorem scut_apply (a : FVec Ideal S7168x2048 .f32) (i : Fin 7168) (b : Fin 16) (q : Fin 128) :
    k0_pay2 a (ix3 i b q) = Ideal.sqrt (a (ix2 i ⟨b.val * 128 + q.val, by omega⟩)) := by
  pointwise [k0_pay2]

/-- The first moment's scales. -/
theorem mscale_apply (g p : FVec Ideal S7168x2048 .f32) (i : Fin 7168) (b : Fin 16) :
    k0_pay13 g p (ix2 i b) = scaleR (top fun q => mag (k0_pay8 g p (ix2 i ⟨b.val * 128 + q.val, by omega⟩))) := by
  unfold k0_pay13
  refine (scale_of _ _).trans (congrArg scaleR ((max_last _ _ _ _ i b).trans (congrArg top (funext fun q => ?_))))
  exact congrArg mag (mcut_apply g p i b q)

/-- The second moment's scales. -/
theorem sscale_apply (a : FVec Ideal S7168x2048 .f32) (i : Fin 7168) (b : Fin 16) :
    k0_pay3 a (ix2 i b) = scaleR (top fun q => mag (Ideal.sqrt (a (ix2 i ⟨b.val * 128 + q.val, by omega⟩)))) := by
  unfold k0_pay3
  refine (scale_of _ _).trans (congrArg scaleR ((max_last _ _ _ _ i b).trans (congrArg top (funext fun q => ?_))))
  exact congrArg mag (scut_apply a i b q)

/-- An entry's column from its block and its place in the block. -/
theorem col_eq (o : Fin 2048) (h : o.val / 128 * 128 + o.val % 128 < 2048) :
    (⟨o.val / 128 * 128 + o.val % 128, h⟩ : Fin 2048) = o := Fin.ext (by simp only; omega)

/-- The first moment's codes. -/
theorem mcode_apply (g p : FVec Ideal S7168x2048 .f32) (i : Fin 7168) (o : Fin 2048) :
    k0_pay1 (k0_pay14 g p) 4294967169#32 (ix2 i o)
      = codeR (k0_pay8 g p (ix2 i o)) (k0_pay13 g p (ix2 i ⟨o.val / 128, by omega⟩)) := by
  refine (code_of (k0_pay12 g p) _ i o).trans ?_
  rw [mcut_apply]
  refine congrArg₂ codeR (congrArg (fun u => k0_pay8 g p (ix2 i u)) (col_eq o _)) ?_
  generalize k0_pay13 g p = b
  pointwise

/-- The second moment's codes. -/
theorem scode_apply (a : FVec Ideal S7168x2048 .f32) (i : Fin 7168) (o : Fin 2048) :
    k0_pay4 a (ix2 i o) = codeR (Ideal.sqrt (a (ix2 i o))) (k0_pay3 a (ix2 i ⟨o.val / 128, by omega⟩)) := by
  refine (code_of (k0_pay2 a) _ i o).trans ?_
  rw [scut_apply]
  refine congrArg₂ codeR (congrArg (fun u => Ideal.sqrt (a (ix2 i u))) (col_eq o _)) ?_
  generalize k0_pay3 a = b
  pointwise

end Cert.ReferenceIdeal.Hand

end
-- ==== Proof.RefArrays.lean ====
/- The reference's six result arrays after the run, entry by entry. -/
module

public import proofs.«01_k».proof.Proof.RefOps
public import proofs.«01_k».proof.Proof.Results
public import proofs.«01_k».proof.Proof.Gen.ReferenceIdeal.Value
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.ReferenceIdeal.Hand

open Cert.ReferenceIdeal Cert.ReferenceIdeal.Gen Idealize.ShloMosaic Idealize.SL.Sem Cert.Adam

variable (m : (ℓ : Loc nD τ sig) → Buf (Elt Ideal) ℓ) (c : Dev nD)

/-- The arguments, read from the launch memory. -/
def args : Args where
  x k i := (m ((c.tc : Thread nD τ).loc main_arg0) : Vec Ideal S1x1792x7168 .fp8e4m3) (ix3 0 k i)
  xs k b := (m ((c.tc : Thread nD τ).loc main_arg1) : Vec Ideal S1x1792x56 .f32) (ix3 0 k b)
  dy k o := (m ((c.tc : Thread nD τ).loc main_arg2) : Vec Ideal S1x1792x2048 .fp8e5m2) (ix3 0 k o)
  dys k b := (m ((c.tc : Thread nD τ).loc main_arg3) : Vec Ideal S1x1792x16 .f32) (ix3 0 k b)
  w i o := (m ((c.tc : Thread nD τ).loc main_arg4) : Vec Ideal S7168x2048 .bf16) (ix2 i o)
  mq i o := (m ((c.tc : Thread nD τ).loc main_arg5) : Vec Ideal S7168x2048 .i8) (ix2 i o)
  ms i b := (m ((c.tc : Thread nD τ).loc main_arg6) : Vec Ideal S7168x16 .f32) (ix2 i b)
  sq i o := (m ((c.tc : Thread nD τ).loc main_arg7) : Vec Ideal S7168x2048 .i8) (ix2 i o)
  ss i b := (m ((c.tc : Thread nD τ).loc main_arg8) : Vec Ideal S7168x16 .f32) (ix2 i b)
  t := (m ((c.tc : Thread nD τ).loc main_arg9) : Vec Ideal S_ .i32) (fun a => a.elim0)

/-! ## What the one block of each argument holds -/

/-- The first bias correction. -/
theorem V_c1 : (V m c main_v7 : Vec Ideal S2 .f32) (ix1 0) = (args m c).c1 := by
  unfold V
  after_reads_at
  rfl

/-- The second bias correction. -/
theorem V_c2 : (V m c main_v7 : Vec Ideal S2 .f32) (ix1 1) = (args m c).c2 := by
  unfold V
  after_reads_at
  rfl

variable (t : Fin cfg0.N)

/-- An entry of the one block is the array's entry at the same place. -/
theorem place (s : Shape) (y z : s.Idx) (h : ∀ a, (z a).val = 0 * s.size a + 1 * (y a).val) : z = y :=
  funext fun a => Fin.ext ((h a).trans (by simp))

/-- The bias corrections' block is the whole array. -/
theorem whole_bc : (iblk m c 0 t : Vec Ideal S2 .f32) = V m c main_v7 :=
  funext fun y => congrArg (V m c main_v7 : Vec Ideal S2 .f32) (place S2 y _ fun _ => rfl)

/-- The input codes. -/
theorem whole_x : (iblk m c 1 t : Vec Ideal S1x1792x7168 .fp8e4m3) = m ((c.tc : Thread nD τ).loc main_arg0) :=
  (funext fun y => congrArg (V m c main_arg0 : Vec Ideal S1x1792x7168 .fp8e4m3) (place S1x1792x7168 y _ fun _ => rfl)).trans (V_main_arg0 m c)

/-- Their scales. -/
theorem whole_xs : (iblk m c 2 t : Vec Ideal S1x1792x56 .f32) = m ((c.tc : Thread nD τ).loc main_arg1) :=
  (funext fun y => congrArg (V m c main_arg1 : Vec Ideal S1x1792x56 .f32) (place S1x1792x56 y _ fun _ => rfl)).trans (V_main_arg1 m c)

/-- The output gradients' codes. -/
theorem whole_dy : (iblk m c 3 t : Vec Ideal S1x1792x2048 .fp8e5m2) = m ((c.tc : Thread nD τ).loc main_arg2) :=
  (funext fun y => congrArg (V m c main_arg2 : Vec Ideal S1x1792x2048 .fp8e5m2) (place S1x1792x2048 y _ fun _ => rfl)).trans (V_main_arg2 m c)

/-- Their scales. -/
theorem whole_dys : (iblk m c 4 t : Vec Ideal S1x1792x16 .f32) = m ((c.tc : Thread nD τ).loc main_arg3) :=
  (funext fun y => congrArg (V m c main_arg3 : Vec Ideal S1x1792x16 .f32) (place S1x1792x16 y _ fun _ => rfl)).trans (V_main_arg3 m c)

/-- The weights. -/
theorem whole_w : (iblk m c 5 t : Vec Ideal S7168x2048 .bf16) = m ((c.tc : Thread nD τ).loc main_arg4) :=
  (funext fun y => congrArg (V m c main_arg4 : Vec Ideal S7168x2048 .bf16) (place S7168x2048 y _ fun _ => rfl)).trans (V_main_arg4 m c)

/-- The first moment's codes. -/
theorem whole_mq : (iblk m c 6 t : Vec Ideal S7168x2048 .i8) = m ((c.tc : Thread nD τ).loc main_arg5) :=
  (funext fun y => congrArg (V m c main_arg5 : Vec Ideal S7168x2048 .i8) (place S7168x2048 y _ fun _ => rfl)).trans (V_main_arg5 m c)

/-- Their scales. -/
theorem whole_ms : (iblk m c 7 t : Vec Ideal S7168x16 .f32) = m ((c.tc : Thread nD τ).loc main_arg6) :=
  (funext fun y => congrArg (V m c main_arg6 : Vec Ideal S7168x16 .f32) (place S7168x16 y _ fun _ => rfl)).trans (V_main_arg6 m c)

/-- The codes of the second moment's root. -/
theorem whole_sq : (iblk m c 8 t : Vec Ideal S7168x2048 .i8) = m ((c.tc : Thread nD τ).loc main_arg7) :=
  (funext fun y => congrArg (V m c main_arg7 : Vec Ideal S7168x2048 .i8) (place S7168x2048 y _ fun _ => rfl)).trans (V_main_arg7 m c)

/-- Their scales. -/
theorem whole_ss : (iblk m c 9 t : Vec Ideal S7168x16 .f32) = m ((c.tc : Thread nD τ).loc main_arg8) :=
  (funext fun y => congrArg (V m c main_arg8 : Vec Ideal S7168x16 .f32) (place S7168x16 y _ fun _ => rfl)).trans (V_main_arg8 m c)

/-- The gradient the body computes. -/
abbrev gA : FVec Ideal S7168x2048 .f32 := k0_pay5 (iblk m c 1 t) (iblk m c 2 t) (iblk m c 3 t) (iblk m c 4 t)

/-- The first moment's dequantised codes, weighted. -/
abbrev pA : FVec Ideal S7168x2048 .f32 := k0_pay7 (iblk m c 6 t) (iblk m c 7 t)

/-- The squares of the dequantised codes of the second moment's root. -/
abbrev sA : FVec Ideal S7168x2048 .f32 := k0_pay6 (iblk m c 8 t) (iblk m c 9 t)

variable (i : Fin 7168) (o : Fin 2048) (b : Fin 16)

/-- The bias corrections as the body loads them. -/
theorem ld_c1 (inb hf) : View.ld (iblk m c 0 t : Vec Ideal S2 .f32) (Rect.unit (s := S2) ![0] ![1] inb) (Shape.Idx.first hf)
    = (args m c).c1 :=
  (View.ld_unit_apply_of (iblk m c 0 t : Vec Ideal S2 .f32) _ _ inb _ (ix1 0) fun a => match a with
    | ⟨0, _⟩ => rfl).trans ((congrFun (whole_bc m c t) _).trans (V_c1 m c))

/-- The second one. -/
theorem ld_c2 (inb hf) : View.ld (iblk m c 0 t : Vec Ideal S2 .f32) (Rect.unit (s := S2) ![1] ![1] inb) (Shape.Idx.first hf)
    = (args m c).c2 :=
  (View.ld_unit_apply_of (iblk m c 0 t : Vec Ideal S2 .f32) _ _ inb _ (ix1 1) fun a => match a with
    | ⟨0, _⟩ => rfl).trans ((congrFun (whole_bc m c t) _).trans (V_c2 m c))

/-! ## The body's values in terms of the arguments -/

/-- The gradient. -/
theorem grad_eq : gA m c t (ix2 i o) = (args m c).grad i o := by
  refine (grad_apply _ _ _ _ i o).trans ?_
  rw [whole_x, whole_xs, whole_dy, whole_dys]
  rfl

/-- The first moment. -/
theorem m1_eq : k0_pay8 (gA m c t) (pA m c t) (ix2 i o) = (args m c).m1 i o := by
  refine (mom_apply _ _ _ i o).trans ?_
  rw [grad_eq, whole_mq, whole_ms]
  rfl

/-- The second moment. -/
theorem m2_eq : k0_pay9 (gA m c t) (sA m c t) (ix2 i o) = (args m c).m2 i o := by
  refine (vel_apply _ _ _ i o).trans ?_
  rw [grad_eq, whole_sq, whole_ss]
  rfl

/-- The update. -/
theorem upd_eq : k0_pay10 (gA m c t) (sA m c t) (pA m c t) (args m c).c1 (args m c).c2 (ix2 i o) = (args m c).upd i o := by
  refine (step_apply _ _ _ _ _ _).trans ?_
  rw [m1_eq, m2_eq]
  rfl

/-- The new weight. -/
theorem wNew_eq : k0_pay11 (gA m c t) (sA m c t) (pA m c t) (args m c).c1 (args m c).c2 (iblk m c 5 t) (ix2 i o)
    = (args m c).wNew i o := by
  refine (weight_apply _ _ _ _ _ _ _).trans ?_
  rw [upd_eq, whole_w]
  rfl

/-- The first moment's scale. -/
theorem msNew_eq : k0_pay13 (gA m c t) (pA m c t) (ix2 i b) = (args m c).msNew i b := by
  refine (mscale_apply _ _ i b).trans ?_
  simp only [m1_eq]
  rfl

/-- The first moment's code. -/
theorem mqNew_eq : k0_pay1 (k0_pay14 (gA m c t) (pA m c t)) 4294967169#32 (ix2 i o) = (args m c).mqNew i o := by
  refine (mcode_apply _ _ i o).trans ?_
  rw [m1_eq, msNew_eq]
  rfl

/-- The scale of the second moment's root. -/
theorem ssNew_eq : k0_pay3 (k0_pay9 (gA m c t) (sA m c t)) (ix2 i b) = (args m c).ssNew i b := by
  refine (sscale_apply _ i b).trans ?_
  simp only [m2_eq]
  rfl

/-- The code of the second moment's root. -/
theorem sqNew_eq : k0_pay4 (k0_pay9 (gA m c t) (sA m c t)) (ix2 i o) = (args m c).sqNew i o := by
  refine (scode_apply _ i o).trans ?_
  rw [m2_eq, ssNew_eq]
  rfl

/-! ## The arrays -/

/-- The new weights. -/
theorem result10 : (dats m 0 c).arrAt 10 cfg0.N = fun j : S7168x2048.Idx => (args m c).wNew (j 0) (j 1) := by
  refine (dats m 0 c).arrAt_eq_of_covers 10 _ (by decide +kernel) fun t hf y => ?_
  rw [after0_10]
  blk_simp
  rw [show (win0_10.blk t).view.emb y = y from place S7168x2048 y _ fun _ => rfl]
  show (outsAt0 m c t).1 y = (args m c).wNew (y 0) (y 1)
  rw [outsAt0]
  dsimp only
  frame_out
  simp only [read_unread_whole]
  obtain ⟨i, o, rfl⟩ : ∃ (i : Fin 7168) (o : Fin 2048), y = ix2 i o := ⟨y 0, y 1, (ix2_eta y).symm⟩
  exact (congrArg₂ (fun p q => k0_pay11 (gA m c t) (sA m c t) (pA m c t) p q (iblk m c 5 t) (ix2 i o)) (ld_c1 m c t _ _) (ld_c2 m c t _ _)).trans (wNew_eq m c t i o)

/-- The update. -/
theorem result11 : (dats m 0 c).arrAt 11 cfg0.N = fun j : S7168x2048.Idx => (args m c).upd (j 0) (j 1) := by
  refine (dats m 0 c).arrAt_eq_of_covers 11 _ (by decide +kernel) fun t hf y => ?_
  rw [after0_11]
  blk_simp
  rw [show (win0_11.blk t).view.emb y = y from place S7168x2048 y _ fun _ => rfl]
  show (outsAt0 m c t).2.1 y = (args m c).upd (y 0) (y 1)
  rw [outsAt0]
  dsimp only
  frame_out
  simp only [read_unread_whole]
  obtain ⟨i, o, rfl⟩ : ∃ (i : Fin 7168) (o : Fin 2048), y = ix2 i o := ⟨y 0, y 1, (ix2_eta y).symm⟩
  exact (congrArg₂ (fun p q => k0_pay10 (gA m c t) (sA m c t) (pA m c t) p q (ix2 i o)) (ld_c1 m c t _ _) (ld_c2 m c t _ _)).trans (upd_eq m c t i o)

/-- The first moment's codes. -/
theorem result12 : (dats m 0 c).arrAt 12 cfg0.N = fun j : S7168x2048.Idx => (args m c).mqNew (j 0) (j 1) := by
  refine (dats m 0 c).arrAt_eq_of_covers 12 _ (by decide +kernel) fun t hf y => ?_
  rw [after0_12]
  blk_simp
  rw [show (win0_12.blk t).view.emb y = y from place S7168x2048 y _ fun _ => rfl]
  show (outsAt0 m c t).2.2.1 y = (args m c).mqNew (y 0) (y 1)
  rw [outsAt0]
  dsimp only
  frame_out
  simp only [read_unread_whole]
  obtain ⟨i, o, rfl⟩ : ∃ (i : Fin 7168) (o : Fin 2048), y = ix2 i o := ⟨y 0, y 1, (ix2_eta y).symm⟩
  exact mqNew_eq m c t i o

/-- The first moment's scales. -/
theorem result13 : (dats m 0 c).arrAt 13 cfg0.N = fun j : S7168x16.Idx => (args m c).msNew (j 0) (j 1) := by
  refine (dats m 0 c).arrAt_eq_of_covers 13 _ (by decide +kernel) fun t hf y => ?_
  rw [after0_13]
  blk_simp
  rw [show (win0_13.blk t).view.emb y = y from place S7168x16 y _ fun _ => rfl]
  show (outsAt0 m c t).2.2.2.1 y = (args m c).msNew (y 0) (y 1)
  rw [outsAt0]
  dsimp only
  frame_out
  simp only [read_unread_whole]
  obtain ⟨i, b, rfl⟩ : ∃ (i : Fin 7168) (b : Fin 16), y = ix2 i b := ⟨y 0, y 1, (ix2_eta y).symm⟩
  exact msNew_eq m c t i b

/-- The codes of the second moment's root. -/
theorem result14 : (dats m 0 c).arrAt 14 cfg0.N = fun j : S7168x2048.Idx => (args m c).sqNew (j 0) (j 1) := by
  refine (dats m 0 c).arrAt_eq_of_covers 14 _ (by decide +kernel) fun t hf y => ?_
  rw [after0_14]
  blk_simp
  rw [show (win0_14.blk t).view.emb y = y from place S7168x2048 y _ fun _ => rfl]
  show (outsAt0 m c t).2.2.2.2.1 y = (args m c).sqNew (y 0) (y 1)
  rw [outsAt0]
  dsimp only
  frame_out
  simp only [read_unread_whole]
  obtain ⟨i, o, rfl⟩ : ∃ (i : Fin 7168) (o : Fin 2048), y = ix2 i o := ⟨y 0, y 1, (ix2_eta y).symm⟩
  exact sqNew_eq m c t i o

/-- The scales of the second moment's root. -/
theorem result15 : (dats m 0 c).arrAt 15 cfg0.N = fun j : S7168x16.Idx => (args m c).ssNew (j 0) (j 1) := by
  refine (dats m 0 c).arrAt_eq_of_covers 15 _ (by decide +kernel) fun t hf y => ?_
  rw [after0_15]
  blk_simp
  rw [show (win0_15.blk t).view.emb y = y from place S7168x16 y _ fun _ => rfl]
  show (outsAt0 m c t).2.2.2.2.2 y = (args m c).ssNew (y 0) (y 1)
  rw [outsAt0]
  dsimp only
  frame_out
  simp only [read_unread_whole]
  obtain ⟨i, b, rfl⟩ : ∃ (i : Fin 7168) (b : Fin 16), y = ix2 i b := ⟨y 0, y 1, (ix2_eta y).symm⟩
  exact ssNew_eq m c t i b

end Cert.ReferenceIdeal.Hand

end
-- ==== Proof.lean ====
/- The proof of the certificate's claim: the frames of the three programs, the naming of the constant one over 127,
   and the equality of all six results of the kernel and the reference over the extended reals. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Frame
public import proofs.«01_k».proof.Proof.Gen.ReferenceIdeal.Value
public import proofs.«01_k».proof.Proof.Gen.Pre_step_nonzero
public import proofs.«01_k».proof.Proof.Arrays
public import proofs.«01_k».proof.Proof.RefArrays
public import Idealize.ShloMosaic.Adequacy
public import Idealize.ShloMosaic.Init

@[expose] public section

noncomputable section

namespace Cert.Proof

open Idealize.ShloMosaic Idealize.SL.Sem Cert.Kernel Cert.Adam

/-- The precondition read at the step counter: it is not zero. -/
theorem step_ne (m : (ℓ : Loc Cert.KernelIdeal.nD Cert.KernelIdeal.τ Cert.KernelIdeal.sig) → Buf (Elt Ideal) ℓ)
    (h : Cert.Pre_KernelIdeal_step_nonzero m) (c : Dev Cert.KernelIdeal.nD) : (Cert.KernelIdeal.Hand.args m c).t ≠ 0#32 := by
  intro h0
  have h1 := congrFun (h c) ix0
  unfold Cert.Pre_step_nonzero.fn at h1
  pointwise at h1
  have h2 : IntOp.cmpi .ne (Cert.KernelIdeal.Hand.args m c).t 0#32 = 1#1 := h1
  rw [h0] at h2
  exact absurd h2 (by decide)

/-- Memories agreeing on the arguments give the kernel and the reference the same arguments. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5)
      = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6)
      = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7)
      = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8)
      = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9)
      = m ((c.tc : Thread Cert.KernelIdeal.nD Cert.KernelIdeal.τ).loc Cert.KernelIdeal.main_arg9)) :
    Cert.ReferenceIdeal.Hand.args m' c = Cert.KernelIdeal.Hand.args m c :=
  Args.ext (funext fun k => funext fun i => congrFun h0 (ix3 0 k i)) (funext fun k => funext fun b => congrFun h1 (ix3 0 k b))
    (funext fun k => funext fun o => congrFun h2 (ix3 0 k o)) (funext fun k => funext fun b => congrFun h3 (ix3 0 k b))
    (funext fun i => funext fun o => congrFun h4 (ix2 i o)) (funext fun i => funext fun o => congrFun h5 (ix2 i o))
    (funext fun i => funext fun b => congrFun h6 (ix2 i b)) (funext fun i => funext fun o => congrFun h7 (ix2 i o))
    (funext fun i => funext fun b => congrFun h8 (ix2 i b)) (congrFun h9 ix0)

/-- The kernel and the reference end with the same six results. -/
theorem value : Cert.algebraic_KernelIdeal_ReferenceIdeal_pre_step_nonzero := by
  intro m g m' g' hp he
  refine ⟨fun c j => (Cert.KernelIdeal.Hand.args m c).wNew (j 0) (j 1), fun c j => (Cert.KernelIdeal.Hand.args m c).upd (j 0) (j 1),
    fun c j => (Cert.KernelIdeal.Hand.args m c).mqNew (j 0) (j 1), fun c j => (Cert.KernelIdeal.Hand.args m c).msNew (j 0) (j 1),
    fun c j => (Cert.KernelIdeal.Hand.args m c).sqNew (j 0) (j 1), fun c j => (Cert.KernelIdeal.Hand.args m c).ssNew (j 0) (j 1), ?_, ?_⟩
  · refine (θ_run Cert.KernelIdeal.defs _ _).mono (fun r h c => ?_) (Cert.KernelIdeal.Value.run_blocks m g)
    obtain ⟨r0, r1, r2, r3, r4, r5, rest⟩ := h c
    have ht := step_ne m hp c
    exact ⟨r0.trans (Cert.KernelIdeal.Hand.result10 m c ht), r1.trans (Cert.KernelIdeal.Hand.result11 m c ht),
      r2.trans (Cert.KernelIdeal.Hand.result12 m c), r3.trans (Cert.KernelIdeal.Hand.result13 m c),
      r4.trans (Cert.KernelIdeal.Hand.result14 m c), r5.trans (Cert.KernelIdeal.Hand.result15 m c), rest⟩
  · refine (θ_run Cert.ReferenceIdeal.defs _ _).mono (fun r h c => ?_) (Cert.ReferenceIdeal.Value.run_blocks m' g')
    obtain ⟨r0, r1, r2, r3, r4, r5, rest⟩ := h c
    obtain ⟨h0, h1, h2, h3, h4, h5, h6, h7, h8, h9⟩ := he c
    have e := args_eq m m' c h0 h1 h2 h3 h4 h5 h6 h7 h8 h9
    refine ⟨r0.trans ((Cert.ReferenceIdeal.Hand.result10 m' c).trans ?_), r1.trans ((Cert.ReferenceIdeal.Hand.result11 m' c).trans ?_),
      r2.trans ((Cert.ReferenceIdeal.Hand.result12 m' c).trans ?_), r3.trans ((Cert.ReferenceIdeal.Hand.result13 m' c).trans ?_),
      r4.trans ((Cert.ReferenceIdeal.Hand.result14 m' c).trans ?_), r5.trans ((Cert.ReferenceIdeal.Hand.result15 m' c).trans ?_), rest⟩ <;>
    rw [e] <;> rfl

/-- Everything claimed. -/
theorem claim : Cert.Claim :=
  ⟨Cert.Kernel.Gen.facts, Cert.KernelIdeal.Gen.facts, Cert.ReferenceIdeal.Gen.facts, Cert.Pre_step_nonzero.Gen.facts,
    fun m ρ _ => Cert.Kernel.Gen.frame m ρ, fun m ρ _ => Cert.KernelIdeal.Gen.frame m ρ,
    fun m ρ _ => Cert.KernelIdeal.Gen.frame m ρ, fun m ρ _ => Cert.ReferenceIdeal.Gen.frame m ρ,
    fun m ρ _ => Cert.ReferenceIdeal.Gen.frame m ρ,
    IdealRules.named_const.statement Cert.KernelIdeal.κ "inv_127" .f32 0x3C010204#32 ((1 / 127 : ℝ) : EReal) rfl, value⟩

end Cert.Proof

end
